-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_running_state [hPre_running_state : Cert.Pre_running_state.Facts] (m : (ℓ : Loc Cert.KernelIdeal.nD Cert.KernelIdeal.τ Cert.KernelIdeal.sig) → Buf (Elt Ideal) ℓ) : Prop :=
  ∀ c : Dev Cert.KernelIdeal.nD,
    (Cert.Pre_running_state.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_running_state.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_running_state.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_running_state.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_running_state [hPre_running_state : Cert.Pre_running_state.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_running_state.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_running_state.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_running_state.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_running_state.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_running_state [hKernelIdeal : Cert.KernelIdeal.Facts] [hPre_running_state : Cert.Pre_running_state.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_running_state m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_running_state [hReferenceIdeal : Cert.ReferenceIdeal.Facts] [hPre_running_state : Cert.Pre_running_state.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_running_state m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_running_state [hKernelIdeal : Cert.KernelIdeal.Facts] [hReferenceIdeal : Cert.ReferenceIdeal.Facts] [hPre_running_state : Cert.Pre_running_state.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_running_state m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v16)) (v3 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_v18) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v8_5) = v1 c
          ∧ r.2.mem ((c.tc : Thread Cert.ReferenceIdeal.nD Cert.ReferenceIdeal.τ).loc Cert.ReferenceIdeal.main_v8_6) = v2 c
          ∧ r.2.mem ((c.tc : Thread Cert.ReferenceIdeal.nD Cert.ReferenceIdeal.τ).loc Cert.ReferenceIdeal.main_v8_7) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_running_state : Cert.Pre_running_state.Facts),
    quiescent_Kernel (hKernel := hKernel)
    ∧ quiescent_KernelIdeal (hKernelIdeal := hKernelIdeal)
    ∧ quiescent_KernelIdeal_pre_running_state (hKernelIdeal := hKernelIdeal) (hPre_running_state := hPre_running_state)
    ∧ quiescent_ReferenceIdeal (hReferenceIdeal := hReferenceIdeal)
    ∧ quiescent_ReferenceIdeal_pre_running_state (hReferenceIdeal := hReferenceIdeal) (hPre_running_state := hPre_running_state)
    ∧ preserves_Kernel_KernelIdeal
    ∧ algebraic_KernelIdeal_ReferenceIdeal_pre_running_state (hKernelIdeal := hKernelIdeal) (hReferenceIdeal := hReferenceIdeal) (hPre_running_state := hPre_running_state)
-- ==== Pre_running_state.lean ====
abbrev S16x4096x1024 : Shape := ⟨3, ![16, 4096, 1024]⟩
abbrev S16 : Shape := ⟨1, ![16]⟩
abbrev S16x1024 : Shape := ⟨2, ![16, 1024]⟩
abbrev S1024 : Shape := ⟨1, ![1024]⟩
abbrev S16x4096 : Shape := ⟨2, ![16, 4096]⟩
abbrev S_ : Shape := ⟨0, ![]⟩

class Facts : Prop where
  bcast_S16x4096_S16x4096x1024_0_1 : S16x4096.BroadcastsInDim S16x4096x1024 (![0, 1] : Fin 2 → Fin S16x4096x1024.rank)
  bcast_S_S16x4096x1024 : S_.BroadcastsInDim S16x4096x1024 (![] : Fin 0 → Fin S16x4096x1024.rank)
  bcast_S_S16 : S_.BroadcastsInDim S16 (![] : Fin 0 → Fin S16.rank)
  bcast_S_S16x1024 : S_.BroadcastsInDim S16x1024 (![] : Fin 0 → Fin S16x1024.rank)

variable [Facts]

def fn {F : FTy → Type} [FloatOps F] (main_arg0 : FVec F S16x4096x1024 .f32) (main_arg1 : IVec S16 32) (main_arg2 : FVec F S16x1024 .f32) (main_arg3 : FVec F S16x1024 .f32) (main_arg4 : FVec F S1024 .f32) (main_arg5 : FVec F S1024 .f32) (main_arg6 : IVec S16x4096 1) : IVec S16 1 × IVec S16x1024 1 × IVec S16x1024 1 × IVec S16x4096x1024 1 :=
  let main_v0 : IVec S16x4096x1024 1 := broadcastInDim S16x4096x1024 ![0, 1] bcast_S16x4096_S16x4096x1024_0_1 main_arg6
  let main_cst : FVec F S_ .f32 := constant S_ .f32 0x00000000#32
  let main_v1 : FVec F S16x4096x1024 .f32 := broadcastInDim S16x4096x1024 ![] bcast_S_S16x4096x1024 main_cst
  let main_v2 : FVec F S16x4096x1024 .f32 := select main_v0 main_v1 main_arg0
  let main_c : IVec S_ 32 := constantI S_ 32 1#32
  let main_v3 : IVec S16 32 := broadcastInDim S16 ![] bcast_S_S16 main_c
  let main_v4 : IVec S16 1 := cmpi .sge main_arg1 main_v3
  let main_v5 : FVec F S16x1024 .f32 := Host.absf main_arg2
  let main_cst_0 : FVec F S_ .f32 := constant S_ .f32 0x7F800000#32
  let main_v6 : FVec F S16x1024 .f32 := broadcastInDim S16x1024 ![] bcast_S_S16x1024 main_cst_0
  let main_v7 : IVec S16x1024 1 := cmpf .olt main_v5 main_v6
  let main_cst_1 : FVec F S_ .f32 := constant S_ .f32 0x00000000#32
  let main_v8 : FVec F S16x1024 .f32 := broadcastInDim S16x1024 ![] bcast_S_S16x1024 main_cst_1
  let main_v9 : IVec S16x1024 1 := cmpf .oge main_arg3 main_v8
  let main_v10 : FVec F S16x4096x1024 .f32 := Host.absf main_v2
  let main_cst_2 : FVec F S_ .f32 := constant S_ .f32 0x7F800000#32
  let main_v11 : FVec F S16x4096x1024 .f32 := broadcastInDim S16x4096x1024 ![] bcast_S_S16x4096x1024 main_cst_2
  let main_v12 : IVec S16x4096x1024 1 := cmpf .olt main_v10 main_v11
  (main_v4, main_v7, main_v9, main_v12)
-- ==== Kernel.lean ====
abbrev S16x4096x1024 : Shape := ⟨3, ![16, 4096, 1024]⟩
abbrev S16 : Shape := ⟨1, ![16]⟩
abbrev S16x1024 : Shape := ⟨2, ![16, 1024]⟩
abbrev S1024 : Shape := ⟨1, ![1024]⟩
abbrev S16x4096 : Shape := ⟨2, ![16, 4096]⟩
abbrev S16x1x4096 : Shape := ⟨3, ![16, 1, 4096]⟩
abbrev S16x1x1 : Shape := ⟨3, ![16, 1, 1]⟩
abbrev S16x1x128 : Shape := ⟨3, ![16, 1, 128]⟩
abbrev S16x1x1024 : Shape := ⟨3, ![16, 1, 1024]⟩
abbrev S16x1x2176 : Shape := ⟨3, ![16, 1, 2176]⟩
abbrev S1x1x1024 : Shape := ⟨3, ![1, 1, 1024]⟩
abbrev S1x1x2048 : Shape := ⟨3, ![1, 1, 2048]⟩
abbrev S1x2048x1024 : Shape := ⟨3, ![1, 2048, 1024]⟩
abbrev S1x1x4096 : Shape := ⟨3, ![1, 1, 4096]⟩
abbrev S1x1x2176 : Shape := ⟨3, ![1, 1, 2176]⟩
abbrev S1x1024 : Shape := ⟨2, ![1, 1024]⟩
abbrev S1x128 : Shape := ⟨2, ![1, 128]⟩
abbrev S1x1x128 : Shape := ⟨3, ![1, 1, 128]⟩
abbrev S1x1 : Shape := ⟨2, ![1, 1]⟩
abbrev S256x256 : Shape := ⟨2, ![256, 256]⟩
abbrev S256x128 : Shape := ⟨2, ![256, 128]⟩
abbrev S1x256x1024 : Shape := ⟨3, ![1, 256, 1024]⟩
abbrev S256x1024 : Shape := ⟨2, ![256, 1024]⟩
abbrev S1x1x256 : Shape := ⟨3, ![1, 1, 256]⟩
abbrev S1x256 : Shape := ⟨2, ![1, 256]⟩
abbrev S256x1 : Shape := ⟨2, ![256, 1]⟩
abbrev S255x1 : Shape := ⟨2, ![255, 1]⟩

abbrev nBuf : Space → Nat
  | .hbm => 27
  | .vmem => 14
  | .smem => 0
  | _ => 0

abbrev bufTy : (tb : Table) → Fin (tcTables nBuf tb) → BufTy
  | .hbm, ⟨0, _⟩ => ⟨S16x4096x1024, .f32⟩
  | .hbm, ⟨1, _⟩ => ⟨S16, .i32⟩
  | .hbm, ⟨2, _⟩ => ⟨S16x1024, .f32⟩
  | .hbm, ⟨3, _⟩ => ⟨S16x1024, .f32⟩
  | .hbm, ⟨4, _⟩ => ⟨S1024, .f32⟩
  | .hbm, ⟨5, _⟩ => ⟨S1024, .f32⟩
  | .hbm, ⟨6, _⟩ => ⟨S16x4096, .i1⟩
  | .hbm, ⟨7, _⟩ => ⟨S16x4096, .i1⟩
  | .hbm, ⟨8, _⟩ => ⟨S16x4096, .f32⟩
  | .hbm, ⟨9, _⟩ => ⟨S16x1x4096, .f32⟩
  | .hbm, ⟨10, _⟩ => ⟨S16, .f32⟩
  | .hbm, ⟨11, _⟩ => ⟨S16x1x1, .f32⟩
  | .hbm, ⟨12, _⟩ => ⟨S16x1x128, .f32⟩
  | .hbm, ⟨13, _⟩ => ⟨S16x1x1024, .f32⟩
  | .hbm, ⟨14, _⟩ => ⟨S16x1x1024, .f32⟩
  | .hbm, ⟨15, _⟩ => ⟨S16x1x2176, .f32⟩
  | .hbm, ⟨16, _⟩ => ⟨S1x1x1024, .f32⟩
  | .hbm, ⟨17, _⟩ => ⟨S1x1x1024, .f32⟩
  | .hbm, ⟨18, _⟩ => ⟨S1x1x2048, .f32⟩
  | .hbm, ⟨19, _⟩ => ⟨S16x4096x1024, .f32⟩
  | .hbm, ⟨20, _⟩ => ⟨S16x1x2176, .f32⟩
  | .hbm, ⟨21, _⟩ => ⟨S16x1x1, .f32⟩
  | .hbm, ⟨22, _⟩ => ⟨S16, .f32⟩
  | .hbm, ⟨23, _⟩ => ⟨S16x1x1024, .f32⟩
  | .hbm, ⟨24, _⟩ => ⟨S16x1024, .f32⟩
  | .hbm, ⟨25, _⟩ => ⟨S16x1x1024, .f32⟩
  | .hbm, ⟨26, _⟩ => ⟨S16x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1x4096, .f32⟩
  | .local _ .vmem, ⟨3, _⟩ => ⟨S1x1x4096, .f32⟩
  | .local _ .vmem, ⟨4, _⟩ => ⟨S1x1x2176, .f32⟩
  | .local _ .vmem, ⟨5, _⟩ => ⟨S1x1x2176, .f32⟩
  | .local _ .vmem, ⟨6, _⟩ => ⟨S1x1x2048, .f32⟩
  | .local _ .vmem, ⟨7, _⟩ => ⟨S1x2048x1024, .f32⟩
  | .local _ .vmem, ⟨8, _⟩ => ⟨S1x2048x1024, .f32⟩
  | .local _ .vmem, ⟨9, _⟩ => ⟨S1x1x2176, .f32⟩
  | .local _ .vmem, ⟨10, _⟩ => ⟨S1x1x2176, .f32⟩
  | .local _ .vmem, ⟨11, _⟩ => ⟨S1x1024, .f32⟩
  | .local _ .vmem, ⟨12, _⟩ => ⟨S1x1024, .f32⟩
  | .local _ .vmem, ⟨13, _⟩ => ⟨S1x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 2], ![false, false]⟩

def k0_off1 (i : grid0.Coords) (c0_i32_15 : BitVec 32) : Fin 3 → Nat :=
  let c0_16 : Index := 0#32
  let c0_17 : Index := 0#32
  let arg1 : BitVec 32 := BitVec.ofNat 32 (i 1).val
  let c2048_i32 : BitVec 32 := 2048#32
  let v18 : BitVec 32 := Scalar.muli arg1 c2048_i32
  let v19 : BitVec 32 := Scalar.addi v18 c0_i32_15
  let v20 : Index := Scalar.indexCast v19
  ![0, 0, v20.toNat]
def k0_cond2 (i : grid0.Coords) : BitVec 1 :=
  let arg1 : BitVec 32 := BitVec.ofNat 32 (i 1).val
  let c1_i32 : BitVec 32 := 1#32
  let v451 : BitVec 1 := Scalar.cmpi .eq arg1 c1_i32
  let v452 : BitVec 32 := Scalar.extui v451
  let c0_i32_140 : BitVec 32 := 0#32
  let v453 : BitVec 1 := Scalar.cmpi .ne v452 c0_i32_140
  v453

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2176 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S16x4096x1024 : Shape := ⟨3, ![16, 4096, 1024]⟩
abbrev S16 : Shape := ⟨1, ![16]⟩
abbrev S16x1024 : Shape := ⟨2, ![16, 1024]⟩
abbrev S1024 : Shape := ⟨1, ![1024]⟩
abbrev S16x4096 : Shape := ⟨2, ![16, 4096]⟩
abbrev S_ : Shape := ⟨0, ![]⟩
abbrev S4096x16x1024 : Shape := ⟨3, ![4096, 16, 1024]⟩
abbrev S4096x16 : Shape := ⟨2, ![4096, 16]⟩
abbrev S1x16x1024 : Shape := ⟨3, ![1, 16, 1024]⟩
abbrev S1x16 : Shape := ⟨2, ![1, 16]⟩
abbrev S16x1 : Shape := ⟨2, ![16, 1]⟩
abbrev S1x1024 : Shape := ⟨2, ![1, 1024]⟩

abbrev nBuf : Space → Nat
  | .hbm => 82
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16, .i32⟩
  | .hbm, ⟨2, _⟩ => ⟨S16x1024, .f32⟩
  | .hbm, ⟨3, _⟩ => ⟨S16x1024, .f32⟩
  | .hbm, ⟨4, _⟩ => ⟨S1024, .f32⟩
  | .hbm, ⟨5, _⟩ => ⟨S1024, .f32⟩
  | .hbm, ⟨6, _⟩ => ⟨S16x4096, .i1⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S16x4096, .i1⟩
  | .hbm, ⟨11, _⟩ => ⟨S16x4096, .f32⟩
  | .hbm, ⟨12, _⟩ => ⟨S4096x16x1024, .f32⟩
  | .hbm, ⟨13, _⟩ => ⟨S4096x16, .f32⟩
  | .hbm, ⟨14, _⟩ => ⟨S16, .f32⟩
  | .hbm, ⟨15, _⟩ => ⟨S_, .f32⟩
  | .hbm, ⟨16, _⟩ => ⟨S4096x16x1024, .f32⟩
  | .hbm, ⟨17, _⟩ => ⟨S_, .i32⟩
  | .hbm, ⟨18, _⟩ => ⟨S4096x16x1024, .f32⟩
  | .hbm, ⟨19, _⟩ => ⟨S4096x16, .f32⟩
  | .hbm, ⟨20, _⟩ => ⟨S1024, .f32⟩
  | .hbm, ⟨21, _⟩ => ⟨S1024, .f32⟩
  | .hbm, ⟨22, _⟩ => ⟨S_, .i32⟩
  | .hbm, ⟨23, _⟩ => ⟨S16, .f32⟩
  | .hbm, ⟨24, _⟩ => ⟨S16x1024, .f32⟩
  | .hbm, ⟨25, _⟩ => ⟨S16x1024, .f32⟩
  | .hbm, ⟨26, _⟩ => ⟨S4096x16x1024, .f32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S1x16x1024, .f32⟩
  | .hbm, ⟨32, _⟩ => ⟨S16x1024, .f32⟩
  | .hbm, ⟨33, _⟩ => ⟨S_, .i32⟩
  | .hbm, ⟨34, _⟩ => ⟨S1x16, .f32⟩
  | .hbm, ⟨35, _⟩ => ⟨S16, .f32⟩
  | .hbm, ⟨36, _⟩ => ⟨S16x1, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S16x1, .f32⟩
  | .hbm, ⟨42, _⟩ => ⟨S16x1024, .f32⟩
  | .hbm, ⟨43, _⟩ => ⟨S16x1024, .f32⟩
  | .hbm, ⟨44, _⟩ => ⟨S16x1024, .f32⟩
  | .hbm, ⟨45, _⟩ => ⟨S16x1024, .f32⟩
  | .hbm, ⟨46, _⟩ => ⟨S16x1024, .f32⟩
  | .hbm, ⟨47, _⟩ => ⟨S16x1024, .f32⟩
  | .hbm, ⟨48, _⟩ => ⟨S16x1, .f32⟩
  | .hbm, ⟨49, _⟩ => ⟨S16x1024, .f32⟩
  | .hbm, ⟨50, _⟩ => ⟨S16x1024, .f32⟩
  | .hbm, ⟨51, _⟩ => ⟨S16x1024, .f32⟩
  | .hbm, ⟨52, _⟩ => ⟨S16x1024, .f32⟩
  | .hbm, ⟨53, _⟩ => ⟨S16x1024, .f32⟩
  | .hbm, ⟨54, _⟩ => ⟨S16x1024, .f32⟩
  | .hbm, ⟨55, _⟩ => ⟨S16x1024, .f32⟩
  | .hbm, ⟨56, _⟩ => ⟨S_, .f32⟩
  | .hbm, ⟨57, _⟩ => ⟨S16x1, .f32⟩
  | .hbm, ⟨58, _⟩ => ⟨S16x1, .i1⟩
  | .hbm, ⟨59, _⟩ => ⟨S16x1024, .i1⟩
  | .hbm, ⟨60, _⟩ => ⟨S16x1024, .f32⟩
  | .hbm, ⟨61, _⟩ => ⟨S16x1024, .f32⟩
  | .hbm, ⟨62, _⟩ => ⟨S1x1024, .f32⟩
  | .hbm, ⟨63, _⟩ => ⟨S16x1024, .f32⟩
  | .hbm, ⟨64, _⟩ => ⟨S16x1024, .f32⟩
  | .hbm, ⟨65, _⟩ => ⟨S_, .f32⟩
  | .hbm, ⟨66, _⟩ => ⟨S16x1024, .f32⟩
  | .hbm, ⟨67, _⟩ => ⟨S16x1024, .f32⟩
  | .hbm, ⟨68, _⟩ => ⟨S16x1024, .f32⟩
  | .hbm, ⟨69, _⟩ => ⟨S16x1024, .f32⟩
  | .hbm, ⟨70, _⟩ => ⟨S1x1024, .f32⟩
  | .hbm, ⟨71, _⟩ => ⟨S16x1024, .f32⟩
  | .hbm, ⟨72, _⟩ => ⟨S16x1024, .f32⟩
  | .hbm, ⟨73, _⟩ => ⟨S16x1024, .f32⟩
  | .hbm, ⟨74, _⟩ => ⟨S16x1024, .f32⟩
  | .hbm, ⟨75, _⟩ => ⟨S1x16x1024, .f32⟩
  | .hbm, ⟨76, _⟩ => ⟨S_, .i32⟩
  | .hbm, ⟨77, _⟩ => ⟨S_, .i32⟩
  | .hbm, ⟨78, _⟩ => ⟨S4096x16x1024, .f32⟩
  | .hbm, ⟨79, _⟩ => ⟨S_, .i32⟩
  | .hbm, ⟨80, _⟩ => ⟨S_, .i32⟩
  | .hbm, ⟨81, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_c : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v8_4 : Ref sig .tc := ⟨.hbm, 22, rfl⟩
abbrev main_v8_5 : Ref sig .tc := ⟨.hbm, 23, rfl⟩
abbrev main_v8_6 : Ref sig .tc := ⟨.hbm, 24, rfl⟩
abbrev main_v8_7 : Ref sig .tc := ⟨.hbm, 25, rfl⟩
abbrev main_v8_8 : Ref sig .tc := ⟨.hbm, 26, rfl⟩
abbrev main_while0c_c_9 : Ref sig .tc := ⟨.hbm, 27, rfl⟩
abbrev main_while0c_v10 : Ref sig .tc := ⟨.hbm, 28, rfl⟩
abbrev main_while0b_call0_c : Ref sig .tc := ⟨.hbm, 29, rfl⟩
abbrev main_while0b_call0_c_0 : Ref sig .tc := ⟨.hbm, 30, rfl⟩
abbrev main_while0b_call0_v0 : Ref sig .tc := ⟨.hbm, 31, rfl⟩
abbrev main_while0b_v10 : Ref sig .tc := ⟨.hbm, 32, rfl⟩
abbrev main_while0b_call1_c : Ref sig .tc := ⟨.hbm, 33, rfl⟩
abbrev main_while0b_call1_v0 : Ref sig .tc := ⟨.hbm, 34, rfl⟩
abbrev main_while0b_v11 : Ref sig .tc := ⟨.hbm, 35, rfl⟩
abbrev main_while0b_v12 : Ref sig .tc := ⟨.hbm, 36, rfl⟩
abbrev main_while0b_v13 : Ref sig .tc := ⟨.hbm, 37, rfl⟩
abbrev main_while0b_cst_9 : Ref sig .tc := ⟨.hbm, 38, rfl⟩
abbrev main_while0b_v14 : Ref sig .tc := ⟨.hbm, 39, rfl⟩
abbrev main_while0b_v15 : Ref sig .tc := ⟨.hbm, 40, rfl⟩
abbrev main_while0b_v16 : Ref sig .tc := ⟨.hbm, 41, rfl⟩
abbrev main_while0b_v17 : Ref sig .tc := ⟨.hbm, 42, rfl⟩
abbrev main_while0b_v18 : Ref sig .tc := ⟨.hbm, 43, rfl⟩
abbrev main_while0b_v19 : Ref sig .tc := ⟨.hbm, 44, rfl⟩
abbrev main_while0b_v20 : Ref sig .tc := ⟨.hbm, 45, rfl⟩
abbrev main_while0b_v21 : Ref sig .tc := ⟨.hbm, 46, rfl⟩
abbrev main_while0b_v22 : Ref sig .tc := ⟨.hbm, 47, rfl⟩
abbrev main_while0b_v23 : Ref sig .tc := ⟨.hbm, 48, rfl⟩
abbrev main_while0b_v24 : Ref sig .tc := ⟨.hbm, 49, rfl⟩
abbrev main_while0b_v25 : Ref sig .tc := ⟨.hbm, 50, rfl⟩
abbrev main_while0b_v26 : Ref sig .tc := ⟨.hbm, 51, rfl⟩
abbrev main_while0b_v27 : Ref sig .tc := ⟨.hbm, 52, rfl⟩
abbrev main_while0b_v28 : Ref sig .tc := ⟨.hbm, 53, rfl⟩
abbrev main_while0b_v29 : Ref sig .tc := ⟨.hbm, 54, rfl⟩
abbrev main_while0b_v30 : Ref sig .tc := ⟨.hbm, 55, rfl⟩
abbrev main_while0b_cst_10 : Ref sig .tc := ⟨.hbm, 56, rfl⟩
abbrev main_while0b_v31 : Ref sig .tc := ⟨.hbm, 57, rfl⟩
abbrev main_while0b_v32 : Ref sig .tc := ⟨.hbm, 58, rfl⟩
abbrev main_while0b_call2_v0 : Ref sig .tc := ⟨.hbm, 59, rfl⟩
abbrev main_while0b_v33 : Ref sig .tc := ⟨.hbm, 60, rfl⟩
abbrev main_while0b_v34 : Ref sig .tc := ⟨.hbm, 61, rfl⟩
abbrev main_while0b_v35 : Ref sig .tc := ⟨.hbm, 62, rfl⟩
abbrev main_while0b_v36 : Ref sig .tc := ⟨.hbm, 63, rfl⟩
abbrev main_while0b_v37 : Ref sig .tc := ⟨.hbm, 64, rfl⟩
abbrev main_while0b_cst_11 : Ref sig .tc := ⟨.hbm, 65, rfl⟩
abbrev main_while0b_v38 : Ref sig .tc := ⟨.hbm, 66, rfl⟩
abbrev main_while0b_v39 : Ref sig .tc := ⟨.hbm, 67, rfl⟩
abbrev main_while0b_v40 : Ref sig .tc := ⟨.hbm, 68, rfl⟩
abbrev main_while0b_v41 : Ref sig .tc := ⟨.hbm, 69, rfl⟩
abbrev main_while0b_v42 : Ref sig .tc := ⟨.hbm, 70, rfl⟩
abbrev main_while0b_v43 : Ref sig .tc := ⟨.hbm, 71, rfl⟩
abbrev main_while0b_v44 : Ref sig .tc := ⟨.hbm, 72, rfl⟩
abbrev main_while0b_v45 : Ref sig .tc := ⟨.hbm, 73, rfl⟩
abbrev main_while0b_v46 : Ref sig .tc := ⟨.hbm, 74, rfl⟩
abbrev main_while0b_call3_v0 : Ref sig .tc := ⟨.hbm, 75, rfl⟩
abbrev main_while0b_call3_c : Ref sig .tc := ⟨.hbm, 76, rfl⟩
abbrev main_while0b_call3_c_0 : Ref sig .tc := ⟨.hbm, 77, rfl⟩
abbrev main_while0b_v47 : Ref sig .tc := ⟨.hbm, 78, rfl⟩
abbrev main_while0b_c_12 : Ref sig .tc := ⟨.hbm, 79, rfl⟩
abbrev main_while0b_v48 : Ref sig .tc := ⟨.hbm, 80, rfl⟩
abbrev main_v9 : Ref sig .tc := ⟨.hbm, 81, rfl⟩

abbrev nD : Nat := 1
abbrev τ : Topo := Topo.v7x

variable {F : FTy → Type} [FloatOps F]

abbrev main_while0_count : Scf.Loop 32 := ⟨0#32, 4096#32, 1#32⟩
-- ==== Proof.Lane.lean ====
/-
  One lane of the running statistics: a start (count, mean, variance), and at each step a mask and a value. The running
  count, sum and sum of squares after `n` steps, and the mean, variance and normalised value read off them. And the same
  lane stepped one timestep at a time, each step from the mean and variance before it.
-/
module

public import Idealize.ShloMosaic.PureOps.Ideal

@[expose] public section

noncomputable section

open Idealize.ShloMosaic

namespace Cert

/-- A finite sum of real numbers is the same sum among the extended reals. -/
theorem coe_sum_range (φ : ℕ → ℝ) (n : ℕ) :
    ∑ k ∈ Finset.range n, ((φ k : ℝ) : EReal) = ((∑ k ∈ Finset.range n, φ k : ℝ) : EReal) := by
  induction n with
  | zero => simp
  | succ n ih => rw [Finset.sum_range_succ, Finset.sum_range_succ, ih, EReal.coe_add]

/-- A lane's start and its steps. -/
structure Lane where
  /-- the count at the start -/
  c0 : EReal
  /-- the mean at the start -/
  mu0 : EReal
  /-- the variance at the start -/
  v0 : EReal
  /-- the mask of each step: one where the step counts, zero where it is padded -/
  m : ℕ → EReal
  /-- the value of each step -/
  x : ℕ → EReal

namespace Lane

variable (L : Lane)

/-- The count after `n` steps. -/
def cnt (n : ℕ) : EReal := L.c0 + ∑ k ∈ Finset.range n, L.m k

/-- The sum after `n` steps. -/
def sum (n : ℕ) : EReal := L.c0 * L.mu0 + ∑ k ∈ Finset.range n, L.m k * L.x k

/-- The sum of squares after `n` steps. -/
def sq (n : ℕ) : EReal := L.c0 * (L.v0 + L.mu0 * L.mu0) + ∑ k ∈ Finset.range n, L.m k * (L.x k * L.x k)

/-- The mean after `n` steps. -/
def mean (n : ℕ) : EReal := L.sum n * Ideal.div 1 (L.cnt n)

/-- The variance after `n` steps. -/
def var (n : ℕ) : EReal := L.sq n * Ideal.div 1 (L.cnt n) - L.mean n * L.mean n

/-- The normalised value of step `n`, of the mean and variance after it. -/
def y (g b : EReal) (n : ℕ) : EReal :=
  (g * (L.x n - L.mean (n + 1)) * Ideal.rsqrt (L.var (n + 1) + Ideal.ofBits .f32 0x3727C5AC#32) + b) * L.m n

/-- A count, a mean and a variance. -/
structure Stat where
  /-- the count -/
  c : EReal
  /-- the mean -/
  mu : EReal
  /-- the variance -/
  v : EReal

/-- One step: the count goes up by the mask, the mean moves by its share of the difference, and the variance is updated
    where the step counts. -/
def step (s : Stat) (m x : EReal) : Stat where
  c := s.c + m
  mu := s.mu + Ideal.div (m * (x - s.mu)) (max (s.c + m) 1)
  v := if 0 < m then
      Ideal.div (s.c * s.v + (x - s.mu) * (x - (s.mu + Ideal.div (m * (x - s.mu)) (max (s.c + m) 1)))) (max (s.c + m) 1)
    else s.v

/-- The statistics after `n` steps, taken one at a time. -/
def stat : ℕ → Stat
  | 0 => ⟨L.c0, L.mu0, L.v0⟩
  | n + 1 => step (stat n) (L.m n) (L.x n)

/-- The normalised value of step `n`, of the statistics after it. -/
def refY (g b : EReal) (n : ℕ) : EReal :=
  (g * (L.x n - (L.stat (n + 1)).mu) * Ideal.rsqrt ((L.stat (n + 1)).v + Ideal.ofBits .f32 0x3727C5AC#32) + b) * L.m n

/-- What the inputs have to hold: the mask is zero or one, the count at the start is at least one, the mean finite, the
    variance not negative, and every value that counts finite. -/
structure Ok : Prop where
  /-- the mask -/
  m01 : ∀ k, L.m k = 0 ∨ L.m k = 1
  /-- the count at the start, a real number that is at least one -/
  c0 : ∃ c : ℝ, 1 ≤ c ∧ L.c0 = (c : EReal)
  /-- the mean at the start -/
  mu0 : ∃ u : ℝ, L.mu0 = (u : EReal)
  /-- the variance at the start -/
  v0 : 0 ≤ L.v0
  /-- the values that count -/
  x : ∀ k, L.m k = 1 → ∃ r : ℝ, L.x k = (r : EReal)

end Lane

end Cert

end
-- ==== Proof.Lanes.lean ====
/-
  The lanes of the arguments: for each batch and each of the 1024 columns, the start and the steps of its statistics.
-/
module

public import proofs.«01_k».proof.Proof.Lane
public import Idealize.ShloMosaic.Lib.Pointwise

@[expose] public section

noncomputable section

open Idealize.ShloMosaic

namespace Cert

/-- The mask as a number: zero where the position is padded, one elsewhere. -/
def valid (p : BitVec 1) : EReal := if p = 1#1 then 0 else 1

/-- The lane of batch `b`, column `d`: it starts from the count, mean and variance of the arguments, and its steps are the
    4096 positions. -/
def laneOf (x : FVec Ideal (⟨3, ![16, 4096, 1024]⟩ : Shape) .f32) (n : IVec (⟨1, ![16]⟩ : Shape) 32)
    (mu v : FVec Ideal (⟨2, ![16, 1024]⟩ : Shape) .f32) (p : IVec (⟨2, ![16, 4096]⟩ : Shape) 1) (b : Fin 16)
    (d : Fin 1024) : Lane where
  c0 := (FloatOps.sitofp .f32 (n (ix1 b)) : Ideal .f32)
  mu0 := mu (ix2 b d)
  v0 := v (ix2 b d)
  m k := if h : k < 4096 then valid (p (ix2 b ⟨k, h⟩)) else 0
  x k := if h : k < 4096 then x (ix3 b ⟨k, h⟩ d) else 0

/-- A lane's mask at a position. -/
theorem laneOf_m_at (x n mu v p b d) (k : Fin 4096) : (laneOf x n mu v p b d).m k.val = valid (p (ix2 b k)) :=
  dif_pos k.isLt

/-- A lane's value at a position. -/
theorem laneOf_x_at (x n mu v p b d) (k : Fin 4096) : (laneOf x n mu v p b d).x k.val = x (ix3 b k d) :=
  dif_pos k.isLt

/-- The mask of a lane is zero or one. -/
theorem laneOf_m01 (x n mu v p b d) (k : ℕ) : (laneOf x n mu v p b d).m k = 0 ∨ (laneOf x n mu v p b d).m k = 1 := by
  unfold laneOf
  dsimp only
  split
  · unfold valid
    split
    · exact Or.inl rfl
    · exact Or.inr rfl
  · exact Or.inl rfl

end Cert

end
-- ==== Proof.Args.lean ====
/-
  What the kernel reads: at the grid point of batch `b` and chunk `h`, its blocks of x, of the mask's row, of the row of
  priors and of the row of weights, each as elements of the arguments.
-/
module

public import proofs.«01_k».proof.Defs
public import proofs.«01_k».proof.Proof.Gen.KernelIdeal.Frame
public import proofs.«01_k».proof.Proof.Lanes
public import Idealize.ShloMosaic.Lib.Claim
public import Idealize.ShloMosaic.Lib.Pipeline.Value
public import Idealize.ShloMosaic.Lib.Pipeline.ValueKit
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- The values. -/
abbrev argX (c : Dev nD) : Vec Ideal S16x4096x1024 .f32 := m ((c.tc : Thread nD τ).loc main_arg0)
/-- The counts at the start. -/
abbrev argN (c : Dev nD) : IVec S16 32 := m ((c.tc : Thread nD τ).loc main_arg1)
/-- The means at the start. -/
abbrev argMu (c : Dev nD) : Vec Ideal S16x1024 .f32 := m ((c.tc : Thread nD τ).loc main_arg2)
/-- The variances at the start. -/
abbrev argV (c : Dev nD) : Vec Ideal S16x1024 .f32 := m ((c.tc : Thread nD τ).loc main_arg3)
/-- The weights. -/
abbrev argW (c : Dev nD) : Vec Ideal S1024 .f32 := m ((c.tc : Thread nD τ).loc main_arg4)
/-- The biases. -/
abbrev argB (c : Dev nD) : Vec Ideal S1024 .f32 := m ((c.tc : Thread nD τ).loc main_arg5)
/-- The padding mask. -/
abbrev argP (c : Dev nD) : IVec S16x4096 1 := m ((c.tc : Thread nD τ).loc main_arg6)

/-- The block indices of the windows at a grid point: batch `t / 2`, chunk `t % 2`. -/
theorem idx : ∀ t : Fin cfg0.N,
    win0_0.index t = ![t.val / 2, t.val % 2, 0] ∧ win0_1.index t = ![t.val / 2, 0, 0]
    ∧ win0_2.index t = ![t.val / 2, 0, 0] ∧ win0_3.index t = ![0, 0, 0]
    ∧ win0_4.index t = ![t.val / 2, t.val % 2, 0] ∧ win0_5.index t = ![t.val / 2, 0, 0] := by
  decide +kernel

/-- The chunk of a grid point. -/
theorem chunk : ∀ t : Fin cfg0.N, ((grid0.coords t) 1).val = t.val % 2 := by
  decide +kernel

/-- The batch of a grid point. -/
def batch (t : Fin cfg0.N) : Fin 16 := ⟨t.val / 2, by have h : cfg0.N = 32 := N_0; have := t.isLt; omega⟩

/-- A point's block of x. -/
theorem block_x (c : Dev nD) (t : Fin cfg0.N) (z : Fin 1) (k : Fin 2048) (d : Fin 1024) :
    (iblk m c 0 t : Vec Ideal S1x2048x1024 .f32) (ix3 z k d)
      = argX m c (ix3 (batch t) ⟨2048 * (t.val % 2) + k.val, by omega⟩ d) := by
  unfold batch
  blk_point [iblk, V, idx t]

/-- A point's row of the mask. -/
theorem block_m (c : Dev nD) (t : Fin cfg0.N) (z y : Fin 1) (k : Fin 4096) :
    (iblk m c 1 t : Vec Ideal S1x1x4096 .f32) (ix3 z y k) = (V m c main_v2 : Vec Ideal S16x1x4096 .f32) (ix3 (batch t) 0 k) := by
  unfold batch
  blk_point [iblk, idx t]

/-- A point's row of priors. -/
theorem block_p (c : Dev nD) (t : Fin cfg0.N) (z y : Fin 1) (k : Fin 2176) :
    (iblk m c 2 t : Vec Ideal S1x1x2176 .f32) (ix3 z y k) = (V m c main_v8 : Vec Ideal S16x1x2176 .f32) (ix3 (batch t) 0 k) := by
  unfold batch
  blk_point [iblk, idx t]

/-- A point's row of weights and biases. -/
theorem block_w (c : Dev nD) (t : Fin cfg0.N) (z y : Fin 1) (k : Fin 2048) :
    (iblk m c 3 t : Vec Ideal S1x1x2048 .f32) (ix3 z y k) = (V m c main_v11 : Vec Ideal S1x1x2048 .f32) (ix3 0 0 k) := by
  blk_point [iblk, idx t]

/-- The mask's row the kernel reads, as the host's operations on the mask. -/
theorem V_v2 (c : Dev nD) : (V m c main_v2 : Vec Ideal S16x1x4096 .f32)
    = shapeCast S16x1x4096 (uitofp .f32 (noti (argP m c)) : FVec Ideal S16x4096 .f32) shapeCasts_S16x4096_S16x1x4096 := by
  change StableHlo.after hostOps0 (fun b => m (c, b)) (Proc.devRef .tc main_v2) = _
  entry_read
  rfl

/-- The contents after the host's first eight operations: the pieces of the rows of priors are written. -/
def mid (c : Dev nD) : Valuation τ sig (Elt Ideal) := StableHlo.after (hostOps0.take 8) (fun b => m (c, b))

/-- The means among those contents. -/
theorem mid_v6 (c : Dev nD) : (mid m c (Proc.devRef .tc main_v6) : Vec Ideal S16x1x1024 .f32)
    = shapeCast S16x1x1024 (argMu m c) shapeCasts_S16x1024_S16x1x1024 := by
  unfold mid
  simp only [hostOps0, List.take]
  entry_read
  rfl

/-- The variances among those contents. -/
theorem mid_v7 (c : Dev nD) : (mid m c (Proc.devRef .tc main_v7) : Vec Ideal S16x1x1024 .f32)
    = shapeCast S16x1x1024 (argV m c) shapeCasts_S16x1024_S16x1x1024 := by
  unfold mid
  simp only [hostOps0, List.take]
  entry_read
  rfl

/-- The counts among those contents. -/
theorem mid_v5 (c : Dev nD) : (mid m c (Proc.devRef .tc main_v5) : Vec Ideal S16x1x128 .f32)
    = broadcastInDim S16x1x128 ![0, 1, 2] bcast_S16x1x1_S16x1x128_0_1_2
      (broadcastInDim S16x1x1 ![0] bcast_S16_S16x1x1_0 (sitofp .f32 (argN m c) : FVec Ideal S16 .f32)) := by
  unfold mid
  simp only [hostOps0, List.take]
  entry_read
  rfl

/-- The rows of priors the kernel reads. -/
theorem V_v8 (c : Dev nD) : (V m c main_v8 : Vec Ideal S16x1x2176 .f32)
    = concatenate S16x1x2176 2 [⟨S16x1x1024, shapeCast S16x1x1024 (argMu m c) shapeCasts_S16x1024_S16x1x1024⟩,
        ⟨S16x1x1024, shapeCast S16x1x1024 (argV m c) shapeCasts_S16x1024_S16x1x1024⟩,
        ⟨S16x1x128, broadcastInDim S16x1x128 ![0, 1, 2] bcast_S16x1x1_S16x1x128_0_1_2
          (broadcastInDim S16x1x1 ![0] bcast_S16_S16x1x1_0 (sitofp .f32 (argN m c) : FVec Ideal S16 .f32))⟩]
        concatenates_S16x1x1024_S16x1x1024_S16x1x128_S16x1x2176_d2 := by
  change StableHlo.after (hostOps0.drop 8) (mid m c) (Proc.devRef .tc main_v8) = _
  have h6 := mid_v6 m c
  have h7 := mid_v7 m c
  have h5 := mid_v5 m c
  generalize mid m c = W at h5 h6 h7
  rw [← h5, ← h6, ← h7]
  simp only [hostOps0, List.drop, StableHlo.after_cons, StableHlo.after_nil]
  rw [StableHlo.binary_result_ne _ _ _ _ _ (by decide), StableHlo.reshape_result_ne _ _ _ (by decide),
    StableHlo.reshape_result_ne _ _ _ (by decide), StableHlo.nary_result]
  · rfl
  all_goals decide

/-- The row of weights and biases the kernel reads. -/
theorem V_v11 (c : Dev nD) : (V m c main_v11 : Vec Ideal S1x1x2048 .f32)
    = concatenate S1x1x2048 2 [⟨S1x1x1024, shapeCast S1x1x1024 (argW m c) shapeCasts_S1024_S1x1x1024⟩,
        ⟨S1x1x1024, shapeCast S1x1x1024 (argB m c) shapeCasts_S1024_S1x1x1024⟩]
        concatenates_S1x1x1024_S1x1x1024_S1x1x2048_d2 := by
  change StableHlo.after hostOps0 (fun b => m (c, b)) (Proc.devRef .tc main_v11) = _
  entry_read
  rfl

/-- Not the mask, as a number. -/
theorem uitofp_not (p : BitVec 1) : (FloatOps.uitofp .f32 (~~~p) : Ideal .f32) = valid p := by
  rcases BitVec.eq_zero_or_eq_one p with h | h <;> subst h <;> simp [valid, FloatOps.uitofp]

/-- The mask's row at a position. -/
theorem read_m (c : Dev nD) (b : Fin 16) (k : Fin 4096) :
    (V m c main_v2 : Vec Ideal S16x1x4096 .f32) (ix3 b 0 k) = valid (argP m c (ix2 b k)) := by
  rw [V_v2]
  pointwise
  exact uitofp_not _

/-- The mean a batch starts with. -/
theorem read_mean (c : Dev nD) (b : Fin 16) (d : Fin 1024) :
    (V m c main_v8 : Vec Ideal S16x1x2176 .f32) (ix3 b 0 ⟨d.val, by omega⟩) = argMu m c (ix2 b d) := by
  rw [V_v8]
  pointwise

/-- The variance a batch starts with. -/
theorem read_var (c : Dev nD) (b : Fin 16) (d : Fin 1024) :
    (V m c main_v8 : Vec Ideal S16x1x2176 .f32) (ix3 b 0 ⟨1024 + d.val, by omega⟩) = argV m c (ix2 b d) := by
  rw [V_v8]
  pointwise

/-- The count a batch starts with, in each of 128 lanes. -/
theorem read_count (c : Dev nD) (b : Fin 16) (l : Fin 128) :
    (V m c main_v8 : Vec Ideal S16x1x2176 .f32) (ix3 b 0 ⟨2048 + l.val, by omega⟩)
      = (FloatOps.sitofp .f32 (argN m c (ix1 b)) : Ideal .f32) := by
  rw [V_v8]
  pointwise
  rw [dif_neg (by omega), dif_neg (by omega)]

/-- A lane's weight. -/
theorem read_weight (c : Dev nD) (d : Fin 1024) :
    (V m c main_v11 : Vec Ideal S1x1x2048 .f32) (ix3 0 0 ⟨d.val, by omega⟩) = argW m c (ix1 d) := by
  rw [V_v11]
  pointwise

/-- A lane's bias. -/
theorem read_bias (c : Dev nD) (d : Fin 1024) :
    (V m c main_v11 : Vec Ideal S1x1x2048 .f32) (ix3 0 0 ⟨1024 + d.val, by omega⟩) = argB m c (ix1 d) := by
  rw [V_v11]
  pointwise

end Cert.KernelIdeal.Value

end
-- ==== Proof.Stages.lean ====
/-
  What one block of 256 timesteps computes, as named functions of the values read: the block of x, the block of the
  mask's row, and the three running totals (count, sum, sum of squares) carried from the block before. Nothing here
  depends on the float values: the functions are the operations the body runs, in its order.
-/
module

public import proofs.«01_k».proof.Proof.Gen.KernelIdeal.Skeleton
public import proofs.«01_k».proof.Proof.Gen.KernelIdeal
public import Idealize.ShloMosaic.Lib.Pipeline.FrameBody

@[expose] public section

noncomputable section

open Idealize.ShloMosaic

namespace Cert.KernelIdeal.Value

open Cert.KernelIdeal Cert.KernelIdeal.Gen

variable {F : FTy → Type} [FloatOps F]

/-- The mask's row over the block, repeated down the rows and kept on and below the diagonal. -/
def trimOf (mr : Vec F S1x1x256 .f32) : FVec F S256x256 .bf16 :=
  truncf .bf16
    (select (cmpi .sle (iota .tc S256x256 32 [1] iota_S256x256_d1_w32) (iota .tc S256x256 32 [0] iota_S256x256_d0_w32))
      (broadcastTo S256x256 (shapeCast S1x256 (shapeCast S1x256 mr shapeCasts_S1x1x256_S1x256) shapeCasts_S1x256_S1x256)
        broadcasts_S1x256_S256x256)
      (broadcast S256x256 (Scalar.ofBits .f32 0x00000000#32)))
    bitsLt_bf16_f32

/-- The mask's prefix sums within the block, one per row. -/
def cumM (mr : Vec F S1x1x256 .f32) : FVec F S256x1 .f32 :=
  extractStridedSlice S256x1 ![0, 0]
    (matmul dot_S256x256_S256x128_S256x128_1_0_0_1_n_n none (trimOf mr)
      (broadcast S256x128 (Scalar.ofBits .bf16 0x3F80#16)) (constant S256x128 .f32 0x00000000#32))
    slices_S256x128_o0_0_S256x1

/-- The mask as a column: each prefix sum less the one before it. -/
def colM (mr : Vec F S1x1x256 .f32) : FVec F S256x1 .f32 :=
  subf (cumM mr)
    (concatenate S256x1 0
      [⟨S1x1, broadcast S1x1 (Scalar.ofBits .f32 0x00000000#32)⟩,
        ⟨S255x1, extractStridedSlice S255x1 ![0, 0] (cumM mr) slices_S256x1_o0_0_S255x1⟩]
      concatenates_S1x1_S255x1_S256x1_d0)

/-- The block of x without its unit axis. -/
def blockX (x : Vec F S1x256x1024 .f32) : FVec F S256x1024 .f32 :=
  shapeCast S256x1024 x shapeCasts_S1x256x1024_S256x1024

/-- The block of x in the format the products are taken in. -/
def narrowX (x : Vec F S1x256x1024 .f32) : FVec F S256x1024 .bf16 := truncf .bf16 (blockX x) bitsLt_bf16_f32

/-- The running count at each row. -/
def rowsC (c : Vec F S1x1 .f32) (mr : Vec F S1x1x256 .f32) : FVec F S256x1 .f32 :=
  addf (broadcastTo S256x1 c broadcasts_S1x1_S256x1) (cumM mr)

/-- The running sum at each row. -/
def rowsS (s : Vec F S1x1024 .f32) (mr : Vec F S1x1x256 .f32) (x : Vec F S1x256x1024 .f32) : FVec F S256x1024 .f32 :=
  addf (broadcastTo S256x1024 s broadcasts_S1x1024_S256x1024)
    (matmul dot_S256x256_S256x1024_S256x1024_1_0_0_1_n_n none (trimOf mr) (narrowX x)
      (constant S256x1024 .f32 0x00000000#32))

/-- The running sum of squares at each row. -/
def rowsQ (q : Vec F S1x1024 .f32) (mr : Vec F S1x1x256 .f32) (x : Vec F S1x256x1024 .f32) : FVec F S256x1024 .f32 :=
  addf (broadcastTo S256x1024 q broadcasts_S1x1024_S256x1024)
    (matmul dot_S256x256_S256x1024_S256x1024_1_0_0_1_n_n none (trimOf mr) (mulf (narrowX x) (narrowX x))
      (constant S256x1024 .f32 0x00000000#32))

/-- One over the running count, along the lanes. -/
def rowsInv (c : Vec F S1x1 .f32) (mr : Vec F S1x1x256 .f32) : FVec F S256x1024 .f32 :=
  broadcastTo S256x1024 (divf (broadcast S256x1 (Scalar.ofBits .f32 0x3F800000#32)) (rowsC c mr))
    broadcasts_S256x1_S256x1024

/-- The three running totals. -/
structure Totals (F : FTy → Type) where
  /-- the count -/
  c : Vec F S1x1 .f32
  /-- the sum -/
  s : Vec F S1x1024 .f32
  /-- the sum of squares -/
  q : Vec F S1x1024 .f32

/-- The mean at each row. -/
def rowsMean (T : Totals F) (mr : Vec F S1x1x256 .f32) (x : Vec F S1x256x1024 .f32) : FVec F S256x1024 .f32 :=
  mulf (rowsS T.s mr x) (rowsInv T.c mr)

/-- The variance at each row. -/
def rowsVar (T : Totals F) (mr : Vec F S1x1x256 .f32) (x : Vec F S1x256x1024 .f32) : FVec F S256x1024 .f32 :=
  subf (mulf (rowsQ T.q mr x) (rowsInv T.c mr)) (mulf (rowsMean T mr x) (rowsMean T mr x))

/-- The normalised block. -/
def rowsY (gamma beta : FVec F S1x1024 .f32) (T : Totals F) (mr : Vec F S1x1x256 .f32) (x : Vec F S1x256x1024 .f32) :
    FVec F S1x256x1024 .f32 :=
  shapeCast S1x256x1024
    (mulf
      (addf
        (mulf
          (mulf (broadcastTo S256x1024 gamma broadcasts_S1x1024_S256x1024) (subf (blockX x) (rowsMean T mr x)))
          (rsqrt (addf (rowsVar T mr x) (broadcast S256x1024 (Scalar.ofBits .f32 0x3727C5AC#32)))))
        (broadcastTo S256x1024 beta broadcasts_S1x1024_S256x1024))
      (broadcastTo S256x1024 (colM mr) broadcasts_S256x1_S256x1024))
    shapeCasts_S256x1024_S1x256x1024

/-- The totals after the block: the last row of each. -/
def next (T : Totals F) (mr : Vec F S1x1x256 .f32) (x : Vec F S1x256x1024 .f32) : Totals F where
  c := extractStridedSlice S1x1 ![255, 0] (rowsC T.c mr) slices_S256x1_o255_0_S1x1
  s := extractStridedSlice S1x1024 ![255, 0] (rowsS T.s mr x) slices_S256x1024_o255_0_S1x1024
  q := extractStridedSlice S1x1024 ![255, 0] (rowsQ T.q mr x) slices_S256x1024_o255_0_S1x1024

/-- The totals after the first `n` blocks. -/
def totals (T : Totals F) (M : ℕ → Vec F S1x1x256 .f32) (X : ℕ → Vec F S1x256x1024 .f32) : ℕ → Totals F
  | 0 => T
  | n + 1 => next (totals T M X n) (M n) (X n)

/-- Block `n` of the 2048 timesteps of x that a grid point reads. -/
def xAt (x : Vec F S1x2048x1024 .f32) : ℕ → Vec F S1x256x1024 .f32
  | 0 => View.ld x (Rect.unit (s := S1x2048x1024) ![0, 0, 0] S1x256x1024.size inb_S1x2048x1024_S1x256x1024_0_0_0)
  | 1 => View.ld x (Rect.unit (s := S1x2048x1024) ![0, 256, 0] S1x256x1024.size inb_S1x2048x1024_S1x256x1024_0_256_0)
  | 2 => View.ld x (Rect.unit (s := S1x2048x1024) ![0, 512, 0] S1x256x1024.size inb_S1x2048x1024_S1x256x1024_0_512_0)
  | 3 => View.ld x (Rect.unit (s := S1x2048x1024) ![0, 768, 0] S1x256x1024.size inb_S1x2048x1024_S1x256x1024_0_768_0)
  | 4 => View.ld x (Rect.unit (s := S1x2048x1024) ![0, 1024, 0] S1x256x1024.size inb_S1x2048x1024_S1x256x1024_0_1024_0)
  | 5 => View.ld x (Rect.unit (s := S1x2048x1024) ![0, 1280, 0] S1x256x1024.size inb_S1x2048x1024_S1x256x1024_0_1280_0)
  | 6 => View.ld x (Rect.unit (s := S1x2048x1024) ![0, 1536, 0] S1x256x1024.size inb_S1x2048x1024_S1x256x1024_0_1536_0)
  | _ => View.ld x (Rect.unit (s := S1x2048x1024) ![0, 1792, 0] S1x256x1024.size inb_S1x2048x1024_S1x256x1024_0_1792_0)

/-- Block `n` of the mask's row that a grid point reads. -/
def mAt (i : grid0.Coords) (v : Vec F S1x1x4096 .f32) : ℕ → Vec F S1x1x256 .f32
  | 0 => View.ld v (Rect.unit (s := S1x1x4096) (k0_off1 i 0#32) S1x1x256.size (k0_off1_inb i 0))
  | 1 => View.ld v (Rect.unit (s := S1x1x4096) (k0_off1 i 256#32) S1x1x256.size (k0_off1_inb i 1))
  | 2 => View.ld v (Rect.unit (s := S1x1x4096) (k0_off1 i 512#32) S1x1x256.size (k0_off1_inb i 2))
  | 3 => View.ld v (Rect.unit (s := S1x1x4096) (k0_off1 i 768#32) S1x1x256.size (k0_off1_inb i 3))
  | 4 => View.ld v (Rect.unit (s := S1x1x4096) (k0_off1 i 1024#32) S1x1x256.size (k0_off1_inb i 4))
  | 5 => View.ld v (Rect.unit (s := S1x1x4096) (k0_off1 i 1280#32) S1x1x256.size (k0_off1_inb i 5))
  | 6 => View.ld v (Rect.unit (s := S1x1x4096) (k0_off1 i 1536#32) S1x1x256.size (k0_off1_inb i 6))
  | _ => View.ld v (Rect.unit (s := S1x1x4096) (k0_off1 i 1792#32) S1x1x256.size (k0_off1_inb i 7))

/-- One plus the weight, as a row. -/
def gammaOf (wb : Vec F S1x1x2048 .f32) : FVec F S1x1024 .f32 :=
  addf
    (shapeCast S1x1024
      (View.ld wb (Rect.unit (s := S1x1x2048) ![0, 0, 0] S1x1x1024.size inb_S1x1x2048_S1x1x1024_0_0_0))
      shapeCasts_S1x1x1024_S1x1024)
    (broadcast S1x1024 (Scalar.ofBits .f32 0x3F800000#32))

/-- The bias, as a row. -/
def betaOf (wb : Vec F S1x1x2048 .f32) : FVec F S1x1024 .f32 :=
  shapeCast S1x1024
    (View.ld wb (Rect.unit (s := S1x1x2048) ![0, 0, 1024] S1x1x1024.size inb_S1x1x2048_S1x1x1024_0_0_1024))
    shapeCasts_S1x1x1024_S1x1024

end Cert.KernelIdeal.Value

end
-- ==== Proof.Rows.lean ====
/-
  The named functions of Proof/Stages.lean read at an index, over the extended reals: a block's running count, sum and sum
  of squares at a row are what came in plus a sum over the rows up to it.
-/
module

public import proofs.«01_k».proof.Proof.Stages
public import Idealize.ShloMosaic.Lib.Pointwise
public import Idealize.ShloMosaic.Lib.WordCmp
public import proofs.«01_k».proof.Proof.Lane

@[expose] public section

set_option maxRecDepth 16384

noncomputable section

open Idealize.ShloMosaic

namespace Cert.KernelIdeal.Value

open Cert.KernelIdeal Cert.KernelIdeal.Gen

/-- The trimmed mask at row `r`, column `k`: the mask of `k` when `k` is not after `r`. -/
theorem trimOf_apply (mr : Vec Ideal S1x1x256 .f32) (r k : Fin 256) :
    trimOf mr (ix2 r k) = if k.val ≤ r.val then mr (ix3 0 0 k) else 0 := by
  pointwise [trimOf]
  rw [WordCmp.cmpi_sle_ofNat (by have := k.isLt; omega) (by have := r.isLt; omega)]
  unfold Scalar.select
  by_cases h : k.val ≤ r.val <;> simp [h]

/-- The prefix sums of the mask. -/
theorem cumM_apply (mr : Vec Ideal S1x1x256 .f32) (r : Fin 256) (l : Fin 1) :
    cumM mr (ix2 r l) = ∑ k : Fin 256, trimOf mr (ix2 r k) := by
  pointwise [cumM]

/-- The running sum at a row. -/
theorem rowsS_apply (s : Vec Ideal S1x1024 .f32) (mr : Vec Ideal S1x1x256 .f32) (x : Vec Ideal S1x256x1024 .f32)
    (r : Fin 256) (d : Fin 1024) :
    rowsS s mr x (ix2 r d) = s (ix2 0 d) + ∑ k : Fin 256, trimOf mr (ix2 r k) * x (ix3 0 k d) := by
  pointwise [rowsS, narrowX, blockX]

/-- The running sum of squares at a row. -/
theorem rowsQ_apply (s : Vec Ideal S1x1024 .f32) (mr : Vec Ideal S1x1x256 .f32) (x : Vec Ideal S1x256x1024 .f32)
    (r : Fin 256) (d : Fin 1024) :
    rowsQ s mr x (ix2 r d) = s (ix2 0 d) + ∑ k : Fin 256, trimOf mr (ix2 r k) * (x (ix3 0 k d) * x (ix3 0 k d)) := by
  pointwise [rowsQ, narrowX, blockX]

/-- The running count at a row. -/
theorem rowsC_apply (c : Vec Ideal S1x1 .f32) (mr : Vec Ideal S1x1x256 .f32) (r : Fin 256) (l : Fin 1) :
    rowsC c mr (ix2 r l) = c (ix2 0 0) + cumM mr (ix2 r 0) := by
  pointwise [rowsC]
  rw [Subsingleton.elim l 0]

/-- One over the running count at a row. -/
theorem rowsInv_apply (c : Vec Ideal S1x1 .f32) (mr : Vec Ideal S1x1x256 .f32) (r : Fin 256) (d : Fin 1024) :
    rowsInv c mr (ix2 r d) = Ideal.div 1 (rowsC c mr (ix2 r 0)) := by
  pointwise [rowsInv]

/-- The mean at a row. -/
theorem rowsMean_apply (T : Totals Ideal) (mr : Vec Ideal S1x1x256 .f32) (x : Vec Ideal S1x256x1024 .f32)
    (r : Fin 256) (d : Fin 1024) :
    rowsMean T mr x (ix2 r d) = rowsS T.s mr x (ix2 r d) * Ideal.div 1 (rowsC T.c mr (ix2 r 0)) := by
  pointwise [rowsMean, rowsInv_apply]

/-- The variance at a row. -/
theorem rowsVar_apply (T : Totals Ideal) (mr : Vec Ideal S1x1x256 .f32) (x : Vec Ideal S1x256x1024 .f32)
    (r : Fin 256) (d : Fin 1024) :
    rowsVar T mr x (ix2 r d) = rowsQ T.q mr x (ix2 r d) * Ideal.div 1 (rowsC T.c mr (ix2 r 0))
      - rowsMean T mr x (ix2 r d) * rowsMean T mr x (ix2 r d) := by
  pointwise [rowsVar, rowsInv_apply]

/-- The column of the mask: a prefix sum less the one before it. -/
theorem colM_apply (mr : Vec Ideal S1x1x256 .f32) (r : Fin 256) :
    colM mr (ix2 r 0) = cumM mr (ix2 r 0) - if h : r.val = 0 then 0 else cumM mr (ix2 ⟨r.val - 1, by omega⟩ 0) := by
  pointwise [colM]
  simp only [Nat.lt_one_iff]

/-- The normalised block at a row. -/
theorem rowsY_apply (gamma beta : FVec Ideal S1x1024 .f32) (T : Totals Ideal) (mr : Vec Ideal S1x1x256 .f32)
    (x : Vec Ideal S1x256x1024 .f32) (z : Fin 1) (r : Fin 256) (d : Fin 1024) :
    rowsY gamma beta T mr x (ix3 z r d) =
      (gamma (ix2 0 d) * (x (ix3 0 r d) - rowsMean T mr x (ix2 r d))
        * Ideal.rsqrt (rowsVar T mr x (ix2 r d) + Ideal.ofBits .f32 0x3727C5AC#32) + beta (ix2 0 d))
        * colM mr (ix2 r 0) := by
  pointwise [rowsY, blockX]

/-- The count after a block. -/
theorem next_c (T : Totals Ideal) (mr : Vec Ideal S1x1x256 .f32) (x : Vec Ideal S1x256x1024 .f32) :
    (next T mr x).c (ix2 0 0) = rowsC T.c mr (ix2 255 0) := by
  pointwise [next]

/-- The sum after a block. -/
theorem next_s (T : Totals Ideal) (mr : Vec Ideal S1x1x256 .f32) (x : Vec Ideal S1x256x1024 .f32) (d : Fin 1024) :
    (next T mr x).s (ix2 0 d) = rowsS T.s mr x (ix2 255 d) := by
  pointwise [next]

/-- The sum of squares after a block. -/
theorem next_q (T : Totals Ideal) (mr : Vec Ideal S1x1x256 .f32) (x : Vec Ideal S1x256x1024 .f32) (d : Fin 1024) :
    (next T mr x).q (ix2 0 d) = rowsQ T.q mr x (ix2 255 d) := by
  pointwise [next]

/-! ### Running sums over the blocks -/

/-- A trimmed sum over 256 columns is the sum over the rows up to `r`. -/
theorem trim_sum (mr : Vec Ideal S1x1x256 .f32) (r : Fin 256) (f h : ℕ → EReal) (u : Fin 256 → EReal)
    (hf : ∀ k : Fin 256, mr (ix3 0 0 k) * u k = f k.val * h k.val) :
    ∑ k : Fin 256, trimOf mr (ix2 r k) * u k = ∑ k ∈ Finset.range (r.val + 1), f k * h k := by
  have e : ∀ k : Fin 256, trimOf mr (ix2 r k) * u k = if k.val < r.val + 1 then f k.val * h k.val else 0 := by
    intro k
    rw [trimOf_apply]
    by_cases hk : k.val ≤ r.val
    · rw [if_pos hk, if_pos (by omega), hf]
    · rw [if_neg hk, if_neg (by omega), zero_mul]
  rw [Finset.sum_congr rfl fun k _ => e k,
    Fin.sum_univ_eq_sum_range (fun k => if k < r.val + 1 then f k * h k else 0) 256, ← Finset.sum_filter]
  refine Finset.sum_congr (Finset.ext fun k => ?_) fun _ _ => rfl
  have := r.isLt
  simp only [Finset.mem_filter, Finset.mem_range]
  omega

/-- The prefix sums of the mask as sums over a range. -/
theorem cumM_range (mr : Vec Ideal S1x1x256 .f32) (r : Fin 256) (l : Fin 1) (f : ℕ → EReal)
    (hf : ∀ k : Fin 256, mr (ix3 0 0 k) = f k.val) :
    cumM mr (ix2 r l) = ∑ k ∈ Finset.range (r.val + 1), f k := by
  rw [cumM_apply]
  have h := trim_sum mr r f (fun _ => 1) (fun _ => 1) fun k => by rw [hf]
  simpa only [mul_one] using h

/-- A mask of zeros and ones is its own column. -/
theorem colM_range (mr : Vec Ideal S1x1x256 .f32) (r : Fin 256) (f : ℕ → EReal)
    (hf : ∀ k : Fin 256, mr (ix3 0 0 k) = f k.val) (h01 : ∀ k, f k = 0 ∨ f k = 1) :
    colM mr (ix2 r 0) = f r.val := by
  obtain ⟨φ, hφ⟩ : ∃ φ : ℕ → ℝ, ∀ k, f k = ((φ k : ℝ) : EReal) :=
    ⟨fun k => (f k).toReal, fun k => by rcases h01 k with h | h <;> simp [h]⟩
  rw [colM_apply, cumM_range mr r 0 f hf]
  by_cases h : r.val = 0
  · rw [dif_pos h, h]
    simp
  · rw [dif_neg h, cumM_range mr _ 0 f hf]
    rw [show (r.val - 1) + 1 = r.val by omega, Finset.sum_range_succ]
    have e : ∑ k ∈ Finset.range r.val, f k = ((∑ k ∈ Finset.range r.val, φ k : ℝ) : EReal) := by
      rw [Finset.sum_congr rfl fun k _ => hφ k]
      exact coe_sum_range φ _
    rw [e, hφ r.val]
    norm_cast
    ring

/-- The totals `T` hold, at lane `d`, the running count, sum and sum of squares after `n` steps of a lane. -/
structure At (T : Totals Ideal) (d : Fin 1024) (L : Lane) (n : ℕ) : Prop where
  /-- the count -/
  c : T.c (ix2 0 0) = L.cnt n
  /-- the sum -/
  s : T.s (ix2 0 d) = L.sum n
  /-- the sum of squares -/
  q : T.q (ix2 0 d) = L.sq n

/-- Block reads `mr`, `x` hold, at lane `d`, the steps of a lane from step `n` on. -/
structure Reads (mr : Vec Ideal S1x1x256 .f32) (x : Vec Ideal S1x256x1024 .f32) (d : Fin 1024) (L : Lane) (n : ℕ) :
    Prop where
  /-- the mask -/
  m : ∀ k : Fin 256, mr (ix3 0 0 k) = L.m (n + k.val)
  /-- the values -/
  x : ∀ k : Fin 256, x (ix3 0 k d) = L.x (n + k.val)

section
variable {T : Totals Ideal} {mr : Vec Ideal S1x1x256 .f32} {x : Vec Ideal S1x256x1024 .f32} {d : Fin 1024} {L : Lane}
  {n : ℕ} (hT : At T d L n) (hR : Reads mr x d L n)
include hT hR

/-- The running count at row `r` of the block from step `n` on. -/
theorem rowsC_lane (r : Fin 256) : rowsC T.c mr (ix2 r 0) = L.cnt (n + (r.val + 1)) := by
  rw [rowsC_apply, hT.c, cumM_range mr r 0 (fun k => L.m (n + k)) hR.m]
  unfold Lane.cnt
  rw [Finset.sum_range_add _ n (r.val + 1), add_assoc]

/-- The running sum at row `r`. -/
theorem rowsS_lane (r : Fin 256) : rowsS T.s mr x (ix2 r d) = L.sum (n + (r.val + 1)) := by
  rw [rowsS_apply, hT.s, trim_sum mr r (fun k => L.m (n + k)) (fun k => L.x (n + k)) _ fun k => by rw [hR.m, hR.x]]
  unfold Lane.sum
  rw [Finset.sum_range_add _ n (r.val + 1), add_assoc]

/-- The running sum of squares at row `r`. -/
theorem rowsQ_lane (r : Fin 256) : rowsQ T.q mr x (ix2 r d) = L.sq (n + (r.val + 1)) := by
  rw [rowsQ_apply, hT.q, trim_sum mr r (fun k => L.m (n + k)) (fun k => L.x (n + k) * L.x (n + k)) _
    fun k => by rw [hR.m, hR.x]]
  unfold Lane.sq
  rw [Finset.sum_range_add _ n (r.val + 1), add_assoc]

/-- The mean at row `r`. -/
theorem rowsMean_lane (r : Fin 256) : rowsMean T mr x (ix2 r d) = L.mean (n + (r.val + 1)) := by
  rw [rowsMean_apply, rowsS_lane hT hR, rowsC_lane hT hR]
  rfl

/-- The variance at row `r`. -/
theorem rowsVar_lane (r : Fin 256) : rowsVar T mr x (ix2 r d) = L.var (n + (r.val + 1)) := by
  rw [rowsVar_apply, rowsQ_lane hT hR, rowsC_lane hT hR, rowsMean_lane hT hR]
  rfl

/-- The normalised block at row `r`. -/
theorem rowsY_lane (gamma beta : FVec Ideal S1x1024 .f32) (h01 : ∀ k, L.m k = 0 ∨ L.m k = 1) (z : Fin 1) (r : Fin 256) :
    rowsY gamma beta T mr x (ix3 z r d) = L.y (gamma (ix2 0 d)) (beta (ix2 0 d)) (n + r.val) := by
  rw [rowsY_apply, rowsMean_lane hT hR, rowsVar_lane hT hR,
    colM_range mr r (fun k => L.m (n + k)) hR.m (fun k => h01 _), hR.x]
  rfl

/-- The totals after the block. -/
theorem next_lane : At (next T mr x) d L (n + 256) where
  c := by rw [next_c]; exact rowsC_lane hT hR 255
  s := by rw [next_s]; exact rowsS_lane hT hR 255
  q := by rw [next_q]; exact rowsQ_lane hT hR 255

end

/-- The totals after `j` blocks, each of which reads the steps that follow. -/
theorem totals_lane {T : Totals Ideal} {M : ℕ → Vec Ideal S1x1x256 .f32} {X : ℕ → Vec Ideal S1x256x1024 .f32}
    {d : Fin 1024} {L : Lane} {n : ℕ} (hT : At T d L n) :
    ∀ j : ℕ, (∀ i < j, Reads (M i) (X i) d L (n + 256 * i)) → At (totals T M X j) d L (n + 256 * j)
  | 0, _ => hT
  | j + 1, hR => by
    have h := next_lane (totals_lane hT j fun i hi => hR i (by omega)) (hR j (by omega))
    rw [show n + 256 * (j + 1) = n + 256 * j + 256 by ring]
    exact h

end Cert.KernelIdeal.Value

end
-- ==== Proof.Pieces.lean ====
/-
  What the body's stores hold, at each of the two kinds of grid point, in the named functions of Proof/Stages.lean: the
  eight blocks of y, the three running totals kept for the next point and, at a batch's second point, the row of last
  values. The readings are of whatever float values: none looks into the arithmetic.
-/
module

public import proofs.«01_k».proof.Defs
public import proofs.«01_k».proof.Proof.Gen.KernelIdeal.Frame
public import proofs.«01_k».proof.Proof.Stages
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable {F : FTy → Type} [FloatOps F]

/-- The totals a batch starts from, of its row of priors: mean, variance and count. -/
def firstTotals (p : Vec F S1x1x2176 .f32) : Totals F where
  c := View.ld (k0_pay10 (View.ld p (Rect.unit (s := S1x1x2176) ![0, 0, 2048] S1x1x128.size inb_S1x1x2176_S1x1x128_0_0_2048)))
    (Rect.unit (s := S1x128) ![0, 0] S1x1.size inb_S1x128_S1x1_0_0)
  s := k0_pay11 (View.ld p (Rect.unit (s := S1x1x2176) ![0, 0, 2048] S1x1x128.size inb_S1x1x2176_S1x1x128_0_0_2048))
    (View.ld p (Rect.unit (s := S1x1x2176) ![0, 0, 0] S1x1x1024.size inb_S1x1x2176_S1x1x1024_0_0_0))
  q := k0_pay12 (View.ld p (Rect.unit (s := S1x1x2176) ![0, 0, 2048] S1x1x128.size inb_S1x1x2176_S1x1x128_0_0_2048))
    (View.ld p (Rect.unit (s := S1x1x2176) ![0, 0, 0] S1x1x1024.size inb_S1x1x2176_S1x1x1024_0_0_0))
    (View.ld p (Rect.unit (s := S1x1x2176) ![0, 0, 1024] S1x1x1024.size inb_S1x1x2176_S1x1x1024_0_0_1024))

/-- The totals a batch's second point starts from: what the first left in scratch. -/
def keptTotals (s q : Vec F S1x1024 .f32) (n : Vec F S1x128 .f32) : Totals F where
  c := View.ld n (Rect.unit (s := S1x128) ![0, 0] S1x1.size inb_S1x128_S1x1_0_0)
  s := s
  q := q

/-- Eight blocks of 256 rows, each at its place. -/
def blocks (Y : ℕ → Vec F S1x256x1024 .f32) : List (View.Piece (Elt F) S1x2048x1024 .f32) :=
  [⟨Rect.unit ![0, 1792, 0] ![1, 256, 1024] inb_S1x2048x1024_S1x256x1024_0_1792_0, Y 7⟩,
    ⟨Rect.unit ![0, 1536, 0] ![1, 256, 1024] inb_S1x2048x1024_S1x256x1024_0_1536_0, Y 6⟩,
    ⟨Rect.unit ![0, 1280, 0] ![1, 256, 1024] inb_S1x2048x1024_S1x256x1024_0_1280_0, Y 5⟩,
    ⟨Rect.unit ![0, 1024, 0] ![1, 256, 1024] inb_S1x2048x1024_S1x256x1024_0_1024_0, Y 4⟩,
    ⟨Rect.unit ![0, 768, 0] ![1, 256, 1024] inb_S1x2048x1024_S1x256x1024_0_768_0, Y 3⟩,
    ⟨Rect.unit ![0, 512, 0] ![1, 256, 1024] inb_S1x2048x1024_S1x256x1024_0_512_0, Y 2⟩,
    ⟨Rect.unit ![0, 256, 0] ![1, 256, 1024] inb_S1x2048x1024_S1x256x1024_0_256_0, Y 1⟩,
    ⟨Rect.unit ![0, 0, 0] ![1, 256, 1024] inb_S1x2048x1024_S1x256x1024_0_0_0, Y 0⟩]

/-- The eight blocks as one array of 2048 rows. -/
def stack (Y : ℕ → Vec F S1x256x1024 .f32) : Vec F S1x2048x1024 .f32 := fun j =>
  Y ((j 1).val / 256) (ix3 0 ⟨(j 1).val % 256, Nat.mod_lt _ (by decide)⟩ (j 2))

/-- The blocks, stored each at its place, hold the stack. -/
theorem canon_blocks (Y : ℕ → Vec F S1x256x1024 .f32)
    (hc : ∀ y, ∃ p ∈ blocks Y, y ∈ p.1.set) : View.canon (blocks Y) = stack Y := by
  have key : ∀ (n : ℕ) (hn : n < 8) (inb) (y : S1x2048x1024.Idx) (x : S1x256x1024.Idx),
      (Rect.unit (s := S1x2048x1024) ![0, 256 * n, 0] ![1, 256, 1024] inb).emb x = y → Y n x = stack Y y := by
    intro n hn inb y x h
    subst h
    have hx : (x 1 : ℕ) < 256 := (x 1).isLt
    have h1 : (((Rect.unit (s := S1x2048x1024) ![0, 256 * n, 0] ![1, 256, 1024] inb).emb x 1 : Fin _) : ℕ)
        = 256 * n + (x 1 : ℕ) := Rect.idx_unit_val _ _ _ _ _
    unfold stack
    rw [show Y n x = Y n (ix3 (x 0) (x 1) (x 2)) from congrArg (Y n) (eq_ix3 x)]
    have e1 : (((Rect.unit (s := S1x2048x1024) ![0, 256 * n, 0] ![1, 256, 1024] inb).emb x 1 : Fin _) : ℕ) / 256 = n := by
      rw [h1]; omega
    have e2 : (((Rect.unit (s := S1x2048x1024) ![0, 256 * n, 0] ![1, 256, 1024] inb).emb x 1 : Fin _) : ℕ) % 256
        = (x 1 : ℕ) := by
      rw [h1]; omega
    rw [e1]
    congr 1
    refine (ix3_inj _ _ _ _ _ _).2 ⟨Fin.ext ?_, Fin.ext e2.symm, Fin.ext ?_⟩
    · have := (x 0).isLt
      change (x 0 : ℕ) < 1 at this
      change (x 0 : ℕ) = 0
      omega
    · rw [show (((Rect.unit (s := S1x2048x1024) ![0, 256 * n, 0] ![1, 256, 1024] inb).emb x 2 : Fin _) : ℕ)
        = 0 + (x 2 : ℕ) from Rect.idx_unit_val _ _ _ _ _]
      omega
  funext y
  refine View.canon_eq_of_allAt _ y _ (hc y) fun p hp x hx => ?_
  simp only [blocks, List.mem_cons, List.not_mem_nil, or_false] at hp
  rcases hp with rfl | rfl | rfl | rfl | rfl | rfl | rfl | rfl
  · exact key 7 (by decide) inb_S1x2048x1024_S1x256x1024_0_1792_0 y x hx
  · exact key 6 (by decide) inb_S1x2048x1024_S1x256x1024_0_1536_0 y x hx
  · exact key 5 (by decide) inb_S1x2048x1024_S1x256x1024_0_1280_0 y x hx
  · exact key 4 (by decide) inb_S1x2048x1024_S1x256x1024_0_1024_0 y x hx
  · exact key 3 (by decide) inb_S1x2048x1024_S1x256x1024_0_768_0 y x hx
  · exact key 2 (by decide) inb_S1x2048x1024_S1x256x1024_0_512_0 y x hx
  · exact key 1 (by decide) inb_S1x2048x1024_S1x256x1024_0_256_0 y x hx
  · exact key 0 (by decide) inb_S1x2048x1024_S1x256x1024_0_0_0 y x hx

/-- The eight blocks of y a point computes, from the totals it starts with. -/
def outY (i : grid0.Coords) (x : Vec F S1x2048x1024 .f32) (v : Vec F S1x1x4096 .f32) (wb : Vec F S1x1x2048 .f32)
    (T : Totals F) (n : ℕ) : FVec F S1x256x1024 .f32 :=
  rowsY (gammaOf wb) (betaOf wb) (totals T (mAt i v) (xAt x) n) (mAt i v n) (xAt x n)

/-- The totals a point ends with. -/
def endT (i : grid0.Coords) (x : Vec F S1x2048x1024 .f32) (v : Vec F S1x1x4096 .f32) (T : Totals F) : Totals F :=
  totals T (mAt i v) (xAt x) 8

/-- The row of last values, three pieces. -/
def lastPieces (i : grid0.Coords) (x : Vec F S1x2048x1024 .f32) (v : Vec F S1x1x4096 .f32) (T : Totals F) :
    List (View.Piece (Elt F) S1x1x2176 .f32) :=
  [⟨Rect.unit ![0, 0, 2048] ![1, 1, 128] inb_S1x1x2176_S1x1x128_0_0_2048,
      k0_pay7 (rowsC (totals T (mAt i v) (xAt x) 7).c (mAt i v 7))⟩,
    ⟨Rect.unit ![0, 0, 1024] ![1, 1, 1024] inb_S1x1x2176_S1x1x1024_0_0_1024,
      k0_pay6 (rowsVar (totals T (mAt i v) (xAt x) 7) (mAt i v 7) (xAt x 7))⟩,
    ⟨Rect.unit ![0, 0, 0] ![1, 1, 1024] inb_S1x1x2176_S1x1x1024_0_0_0,
      k0_pay5 (rowsMean (totals T (mAt i v) (xAt x) 7) (mAt i v 7) (xAt x 7))⟩]

section

variable (c : Dev nD)
  (i : grid0.Coords)
  (arg2 : Memref sig .tc .vmem S1x2048x1024 .f32)
  (harg2 : arg2.IsWhole)
  (arg3 : Memref sig .tc .vmem S1x1x4096 .f32)
  (harg3 : arg3.IsWhole)
  (arg4 : Memref sig .tc .vmem S1x1x2176 .f32)
  (harg4 : arg4.IsWhole)
  (arg5 : Memref sig .tc .vmem S1x1x2048 .f32)
  (harg5 : arg5.IsWhole)
  (arg6 : Memref sig .tc .vmem S1x2048x1024 .f32)
  (harg6 : arg6.IsWhole)
  (arg7 : Memref sig .tc .vmem S1x1x2176 .f32)
  (harg7 : arg7.IsWhole)
  (arg8 : Memref sig .tc .vmem S1x1024 .f32)
  (harg8 : arg8.IsWhole)
  (arg9 : Memref sig .tc .vmem S1x1024 .f32)
  (harg9 : arg9.IsWhole)
  (arg10 : Memref sig .tc .vmem S1x128 .f32)
  (harg10 : arg10.IsWhole)
  (x0 : Vec F S1x2048x1024 .f32) (x1 : Vec F S1x1x4096 .f32) (x2 : Vec F S1x1x2176 .f32) (x3 : Vec F S1x1x2048 .f32)

/-- The totals a first point starts with, as it reads them back from scratch. -/
def seededTotals : Totals F where
  c := arg10.view.readCov [⟨Rect.unit ![0, 0] S1x128.size inb_S1x128_S1x128_0_0,
      k0_pay10 (View.ld x2 (Rect.unit (s := S1x1x2176) ![0, 0, 2048] S1x1x128.size inb_S1x1x2176_S1x1x128_0_0_2048))⟩]
    (Rect.unit (s := S1x128) ![0, 0] S1x1.size inb_S1x128_S1x1_0_0).toLoadRect
  s := arg8.view.readCov [⟨Rect.unit ![0, 0] S1x1024.size inb_S1x1024_S1x1024_0_0, (firstTotals x2).s⟩]
    (Rect.unit (s := S1x1024) ![0, 0] S1x1024.size inb_S1x1024_S1x1024_0_0).toLoadRect
  q := arg9.view.readCov [⟨Rect.unit ![0, 0] S1x1024.size inb_S1x1024_S1x1024_0_0, (firstTotals x2).q⟩]
    (Rect.unit (s := S1x1024) ![0, 0] S1x1024.size inb_S1x1024_S1x1024_0_0).toLoadRect

omit [FloatOps F] in
/-- A read of a whole row over zero offsets is the row. -/
theorem ld_row (w : Vec F S1x1024 .f32) :
    View.ld w (Rect.unit (s := S1x1024) ![0, 0] S1x1024.size inb_S1x1024_S1x1024_0_0) = w :=
  View.ld_unit_zero (by funext a; fin_cases a <;> rfl) _ _

/-- The totals read back are the ones stored. -/
theorem seededTotals_eq : seededTotals arg8 arg9 arg10 x2 = firstTotals x2 := by
  unfold seededTotals
  rw [View.readCov_fill _ _ _ _ (Rect.unit (s := S1x128) ![0, 0] S1x1.size inb_S1x128_S1x1_0_0) (by decide),
    View.readCov_fill _ _ _ _ (Rect.unit (s := S1x1024) ![0, 0] S1x1024.size inb_S1x1024_S1x1024_0_0) (by decide),
    View.readCov_fill _ _ _ _ (Rect.unit (s := S1x1024) ![0, 0] S1x1024.size inb_S1x1024_S1x1024_0_0) (by decide),
    ld_row, ld_row]
  rfl

/-- A first point's blocks of y. -/
theorem runA_4 (hc0 : cond0_0 i) (hc1 : ¬cond0_1 i) :
    (kernelRun0_A c i arg2 harg2 arg3 harg3 arg4 harg4 arg5 harg5 arg6 harg6 arg7 harg7 arg8 harg8 arg9 harg9 arg10 harg10 hc0 hc1 x0 x1 x2 x3).1 =
      blocks (outY i (arg2.view.read (Elt F) (harg2.unread x0)) (arg3.view.read (Elt F) (harg3.unread x1)) (arg5.view.read (Elt F) (harg5.unread x3)) (seededTotals arg8 arg9 arg10 (arg4.view.read (Elt F) (harg4.unread x2)))) := by
  unfold kernelRun0_A
  dsimp only
  rfl

/-- What a first point stores of the sum: the seed, then the last row. -/
theorem runA_s0 (hc0 : cond0_0 i) (hc1 : ¬cond0_1 i) :
    (kernelRun0_A c i arg2 harg2 arg3 harg3 arg4 harg4 arg5 harg5 arg6 harg6 arg7 harg7 arg8 harg8 arg9 harg9 arg10 harg10 hc0 hc1 x0 x1 x2 x3).2.2.1 =
      [⟨Rect.unit ![0, 0] S1x1024.size inb_S1x1024_S1x1024_0_0,
          k0_pay2 (rowsS (totals (seededTotals arg8 arg9 arg10 (arg4.view.read (Elt F) (harg4.unread x2))) (mAt i (arg3.view.read (Elt F) (harg3.unread x1))) (xAt (arg2.view.read (Elt F) (harg2.unread x0))) 7).s (mAt i (arg3.view.read (Elt F) (harg3.unread x1)) 7) (xAt (arg2.view.read (Elt F) (harg2.unread x0)) 7))⟩,
        ⟨Rect.unit ![0, 0] S1x1024.size inb_S1x1024_S1x1024_0_0, (firstTotals (arg4.view.read (Elt F) (harg4.unread x2))).s⟩] := by
  unfold kernelRun0_A
  dsimp only
  rfl

/-- What a first point stores of the sum of squares. -/
theorem runA_s1 (hc0 : cond0_0 i) (hc1 : ¬cond0_1 i) :
    (kernelRun0_A c i arg2 harg2 arg3 harg3 arg4 harg4 arg5 harg5 arg6 harg6 arg7 harg7 arg8 harg8 arg9 harg9 arg10 harg10 hc0 hc1 x0 x1 x2 x3).2.2.2.1 =
      [⟨Rect.unit ![0, 0] S1x1024.size inb_S1x1024_S1x1024_0_0,
          k0_pay3 (rowsQ (totals (seededTotals arg8 arg9 arg10 (arg4.view.read (Elt F) (harg4.unread x2))) (mAt i (arg3.view.read (Elt F) (harg3.unread x1))) (xAt (arg2.view.read (Elt F) (harg2.unread x0))) 7).q (mAt i (arg3.view.read (Elt F) (harg3.unread x1)) 7) (xAt (arg2.view.read (Elt F) (harg2.unread x0)) 7))⟩,
        ⟨Rect.unit ![0, 0] S1x1024.size inb_S1x1024_S1x1024_0_0, (firstTotals (arg4.view.read (Elt F) (harg4.unread x2))).q⟩] := by
  unfold kernelRun0_A
  dsimp only
  rfl

/-- What a first point stores of the count. -/
theorem runA_s2 (hc0 : cond0_0 i) (hc1 : ¬cond0_1 i) :
    (kernelRun0_A c i arg2 harg2 arg3 harg3 arg4 harg4 arg5 harg5 arg6 harg6 arg7 harg7 arg8 harg8 arg9 harg9 arg10 harg10 hc0 hc1 x0 x1 x2 x3).2.2.2.2.1 =
      [⟨Rect.unit ![0, 0] S1x128.size inb_S1x128_S1x128_0_0,
          k0_pay4 (rowsC (totals (seededTotals arg8 arg9 arg10 (arg4.view.read (Elt F) (harg4.unread x2))) (mAt i (arg3.view.read (Elt F) (harg3.unread x1))) (xAt (arg2.view.read (Elt F) (harg2.unread x0))) 7).c (mAt i (arg3.view.read (Elt F) (harg3.unread x1)) 7))⟩,
        ⟨Rect.unit ![0, 0] S1x128.size inb_S1x128_S1x128_0_0, k0_pay10 (View.ld (arg4.view.read (Elt F) (harg4.unread x2)) (Rect.unit (s := S1x1x2176) ![0, 0, 2048] S1x1x128.size inb_S1x1x2176_S1x1x128_0_0_2048))⟩] := by
  unfold kernelRun0_A
  dsimp only
  rfl

/-- A second point's blocks of y. -/
theorem runB_4 (hc0 : ¬cond0_0 i) (hc1 : cond0_1 i) (xs0 : Vec F S1x1024 .f32) (xs1 : Vec F S1x1024 .f32) (xs2 : Vec F S1x128 .f32) :
    (kernelRun0_B c i arg2 harg2 arg3 harg3 arg4 harg4 arg5 harg5 arg6 harg6 arg7 harg7 arg8 harg8 arg9 harg9 arg10 harg10 hc0 hc1 x0 x1 x2 x3 xs0 xs1 xs2).1 =
      blocks (outY i (arg2.view.read (Elt F) (harg2.unread x0)) (arg3.view.read (Elt F) (harg3.unread x1)) (arg5.view.read (Elt F) (harg5.unread x3)) (keptTotals
        (View.ld (arg8.view.read (Elt F) (harg8.unread xs0)) (Rect.unit (s := S1x1024) ![0, 0] S1x1024.size inb_S1x1024_S1x1024_0_0))
        (View.ld (arg9.view.read (Elt F) (harg9.unread xs1)) (Rect.unit (s := S1x1024) ![0, 0] S1x1024.size inb_S1x1024_S1x1024_0_0))
        (arg10.view.read (Elt F) (harg10.unread xs2)))) := by
  unfold kernelRun0_B
  dsimp only
  rfl

/-- A second point's row of last values. -/
theorem runB_5 (hc0 : ¬cond0_0 i) (hc1 : cond0_1 i) (xs0 : Vec F S1x1024 .f32) (xs1 : Vec F S1x1024 .f32) (xs2 : Vec F S1x128 .f32) :
    (kernelRun0_B c i arg2 harg2 arg3 harg3 arg4 harg4 arg5 harg5 arg6 harg6 arg7 harg7 arg8 harg8 arg9 harg9 arg10 harg10 hc0 hc1 x0 x1 x2 x3 xs0 xs1 xs2).2.1 =
      lastPieces i (arg2.view.read (Elt F) (harg2.unread x0)) (arg3.view.read (Elt F) (harg3.unread x1)) (keptTotals
        (View.ld (arg8.view.read (Elt F) (harg8.unread xs0)) (Rect.unit (s := S1x1024) ![0, 0] S1x1024.size inb_S1x1024_S1x1024_0_0))
        (View.ld (arg9.view.read (Elt F) (harg9.unread xs1)) (Rect.unit (s := S1x1024) ![0, 0] S1x1024.size inb_S1x1024_S1x1024_0_0))
        (arg10.view.read (Elt F) (harg10.unread xs2))) := by
  unfold kernelRun0_B
  dsimp only
  rfl

/-- A first point leaves in y's buffer the stack of its blocks. -/
theorem out0_A_4_eq (hc0 : cond0_0 i) (hc1 : ¬cond0_1 i) : out0_A_4 c i arg2 harg2 arg3 harg3 arg4 harg4 arg5 harg5 arg6 harg6 arg7 harg7 arg8 harg8 arg9 harg9 arg10 harg10 hc0 hc1 x0 x1 x2 x3 = stack (outY i x0 x1 x3 (firstTotals x2)) := by
  have hc := cover0_A_4 c i arg2 harg2 arg3 harg3 arg4 harg4 arg5 harg5 arg6 harg6 arg7 harg7 arg8 harg8 arg9 harg9 arg10 harg10 hc0 hc1 x0 x1 x2 x3
  unfold out0_A_4
  rw [View.read_writes_eq_canon _ _ _ hc]
  rw [runA_4] at hc ⊢
  rw [canon_blocks _ hc, seededTotals_eq, harg2.read_unread, harg3.read_unread, harg4.read_unread, harg5.read_unread]

/-- A first point leaves its last sum in scratch. -/
theorem sout0_A_0_eq (hc0 : cond0_0 i) (hc1 : ¬cond0_1 i) : sout0_A_0 c i arg2 harg2 arg3 harg3 arg4 harg4 arg5 harg5 arg6 harg6 arg7 harg7 arg8 harg8 arg9 harg9 arg10 harg10 hc0 hc1 x0 x1 x2 x3 = (endT i x0 x1 (firstTotals x2)).s := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3), runA_s0, View.canon_cons_unit_lit _ _ _ (by decide),
    seededTotals_eq, harg2.read_unread, harg3.read_unread, harg4.read_unread]
  exact shapeCast_self _ _

/-- A first point leaves its last sum of squares in scratch. -/
theorem sout0_A_1_eq (hc0 : cond0_0 i) (hc1 : ¬cond0_1 i) : sout0_A_1 c i arg2 harg2 arg3 harg3 arg4 harg4 arg5 harg5 arg6 harg6 arg7 harg7 arg8 harg8 arg9 harg9 arg10 harg10 hc0 hc1 x0 x1 x2 x3 = (endT i x0 x1 (firstTotals x2)).q := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3), runA_s1, View.canon_cons_unit_lit _ _ _ (by decide),
    seededTotals_eq, harg2.read_unread, harg3.read_unread, harg4.read_unread]
  exact shapeCast_self _ _

/-- A first point leaves its last count in scratch, along the lanes. -/
theorem sout0_A_2_eq (hc0 : cond0_0 i) (hc1 : ¬cond0_1 i) : sout0_A_2 c i arg2 harg2 arg3 harg3 arg4 harg4 arg5 harg5 arg6 harg6 arg7 harg7 arg8 harg8 arg9 harg9 arg10 harg10 hc0 hc1 x0 x1 x2 x3 =
    broadcastTo S1x128 (endT i x0 x1 (firstTotals x2)).c broadcasts_S1x1_S1x128 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3), runA_s2, View.canon_cons_unit_lit _ _ _ (by decide),
    seededTotals_eq, harg2.read_unread, harg3.read_unread, harg4.read_unread]
  unfold k0_pay4
  dsimp only
  rw [shapeCast_self, shapeCast_self]
  rfl

/-- A second point leaves in y's buffer the stack of its blocks. -/
theorem out0_B_4_eq (hc0 : ¬cond0_0 i) (hc1 : cond0_1 i) (xs0 : Vec F S1x1024 .f32) (xs1 : Vec F S1x1024 .f32) (xs2 : Vec F S1x128 .f32) :
    out0_B_4 c i arg2 harg2 arg3 harg3 arg4 harg4 arg5 harg5 arg6 harg6 arg7 harg7 arg8 harg8 arg9 harg9 arg10 harg10 hc0 hc1 x0 x1 x2 x3 xs0 xs1 xs2 = stack (outY i x0 x1 x3 (keptTotals xs0 xs1 xs2)) := by
  have hc := cover0_B_4 c i arg2 harg2 arg3 harg3 arg4 harg4 arg5 harg5 arg6 harg6 arg7 harg7 arg8 harg8 arg9 harg9 arg10 harg10 hc0 hc1 x0 x1 x2 x3 xs0 xs1 xs2
  unfold out0_B_4
  rw [View.read_writes_eq_canon _ _ _ hc]
  rw [runB_4] at hc ⊢
  rw [canon_blocks _ hc, harg2.read_unread, harg3.read_unread, harg5.read_unread, harg8.read_unread,
    harg9.read_unread, harg10.read_unread, ld_row, ld_row]

/-- A second point leaves in the last buffer the row of last values. -/
theorem out0_B_5_eq (hc0 : ¬cond0_0 i) (hc1 : cond0_1 i) (xs0 : Vec F S1x1024 .f32) (xs1 : Vec F S1x1024 .f32) (xs2 : Vec F S1x128 .f32) :
    out0_B_5 c i arg2 harg2 arg3 harg3 arg4 harg4 arg5 harg5 arg6 harg6 arg7 harg7 arg8 harg8 arg9 harg9 arg10 harg10 hc0 hc1 x0 x1 x2 x3 xs0 xs1 xs2 = View.canon (lastPieces i x0 x1 (keptTotals xs0 xs1 xs2)) := by
  unfold out0_B_5
  rw [View.read_writes_eq_canon _ _ _ (cover0_B_5 c i arg2 harg2 arg3 harg3 arg4 harg4 arg5 harg5 arg6 harg6 arg7 harg7 arg8 harg8 arg9 harg9 arg10 harg10 hc0 hc1 x0 x1 x2 x3 xs0 xs1 xs2), runB_5, harg2.read_unread, harg3.read_unread, harg8.read_unread,
    harg9.read_unread, harg10.read_unread, ld_row, ld_row]

end

end Cert.KernelIdeal.Value

end
-- ==== Proof.Points.lean ====
/-
  The grid points in lanes: at each point the blocks read are steps of the lanes, the totals carried are the lanes'
  running totals, and the blocks of y are the lanes' normalised values.
-/
module

public import proofs.«01_k».proof.Proof.Args
public import proofs.«01_k».proof.Proof.Rows
public import proofs.«01_k».proof.Proof.Pieces

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- The lanes of the kernel's arguments. -/
abbrev lane (c : Dev nD) (b : Fin 16) (d : Fin 1024) : Lane :=
  laneOf (argX m c) (argN m c) (argMu m c) (argV m c) (argP m c) b d

/-- The count a batch starts with, as its point reads it. -/
theorem prior_c (c : Dev nD) (t : Fin cfg0.N) (d : Fin 1024) :
    (iblk m c 2 t : Vec Ideal S1x1x2176 .f32) (ix3 0 0 2048) = (lane m c (batch t) d).c0 :=
  (block_p m c t 0 0 2048).trans (read_count m c (batch t) 0)

/-- The mean a batch starts with, as its point reads it. -/
theorem prior_mu (c : Dev nD) (t : Fin cfg0.N) (d : Fin 1024) :
    (iblk m c 2 t : Vec Ideal S1x1x2176 .f32) (ix3 0 0 ⟨d.val, by omega⟩) = (lane m c (batch t) d).mu0 :=
  (block_p m c t 0 0 _).trans (read_mean m c (batch t) d)

/-- The variance a batch starts with, as its point reads it. -/
theorem prior_v (c : Dev nD) (t : Fin cfg0.N) (d : Fin 1024) :
    (iblk m c 2 t : Vec Ideal S1x1x2176 .f32) (ix3 0 0 ⟨1024 + d.val, by omega⟩) = (lane m c (batch t) d).v0 :=
  (block_p m c t 0 0 _).trans (read_var m c (batch t) d)

/-- The totals a batch starts from are its lanes' totals before any step. -/
theorem first_at (c : Dev nD) (t : Fin cfg0.N) (d : Fin 1024) :
    At (firstTotals (iblk m c 2 t)) d (lane m c (batch t) d) 0 where
  c := by
    pointwise [firstTotals, k0_pay10, k0_pay8]
    rw [prior_c m c t d, Lane.cnt, Finset.sum_range_zero, add_zero]
  s := by
    pointwise [firstTotals, k0_pay11, k0_pay9, k0_pay8]
    rw [prior_c m c t d, prior_mu, Lane.sum, Finset.sum_range_zero, add_zero]
  q := by
    pointwise [firstTotals, k0_pay12, k0_pay9, k0_pay8]
    rw [prior_c m c t d, prior_mu, prior_v, Lane.sq, Finset.sum_range_zero, add_zero]

/-- Block `n` of x at a point. -/
theorem xAt_apply (x : Vec Ideal S1x2048x1024 .f32) (n : ℕ) (hn : n < 8) (k : Fin 256) (d : Fin 1024) :
    xAt x n (ix3 0 k d) = x (ix3 0 ⟨256 * n + k.val, by omega⟩ d) := by
  interval_cases n <;> pointwise [xAt]

/-- A read of 256 positions of the mask's row at a point's `n`-th offset. -/
theorem ld_m (i : grid0.Coords) (v : Vec Ideal S1x1x4096 .f32) (n : ℕ) (hn : n < 8) (k : Fin 256) (w : BitVec 32)
    (hw : w = BitVec.ofNat 32 (256 * n)) (inb) :
    View.ld v (Rect.unit (s := S1x1x4096) (k0_off1 i w) S1x1x256.size inb) (ix3 0 0 k)
      = v (ix3 0 0 ⟨2048 * (i 1).val + (256 * n + k.val), by have h : (i 1).val < 2 := (i 1).isLt; omega⟩) := by
  subst hw
  have e : k0_off1 i (BitVec.ofNat 32 (256 * n)) = ![0, 0, 2048 * (i 1).val + 256 * n] := k0_off1_eq i ⟨n, hn⟩
  pointwise
  refine congrArg v ((ix3_inj _ _ _ _ _ _).2 ⟨Fin.ext ?_, Fin.ext ?_, Fin.ext ?_⟩)
  · exact congrFun e 0
  · exact congrFun e 1
  · have e2 : k0_off1 i (BitVec.ofNat 32 (256 * n)) 2 = 2048 * (i 1).val + 256 * n := congrFun e 2
    dsimp only
    omega

/-- Block `n` of the mask's row at a point. -/
theorem mAt_apply (i : grid0.Coords) (v : Vec Ideal S1x1x4096 .f32) (n : ℕ) (hn : n < 8) (k : Fin 256) :
    mAt i v n (ix3 0 0 k)
      = v (ix3 0 0 ⟨2048 * (i 1).val + (256 * n + k.val), by have h : (i 1).val < 2 := (i 1).isLt; omega⟩) := by
  interval_cases n <;> exact ld_m i v _ hn k _ rfl _

/-- The row of one plus the weights. -/
theorem gamma_apply (c : Dev nD) (t : Fin cfg0.N) (d : Fin 1024) :
    gammaOf (iblk m c 3 t) (ix2 0 d) = argW m c (ix1 d) + 1 := by
  pointwise [gammaOf]
  rw [block_w, read_weight]

/-- The row of biases. -/
theorem beta_apply (c : Dev nD) (t : Fin cfg0.N) (d : Fin 1024) :
    betaOf (iblk m c 3 t) (ix2 0 d) = argB m c (ix1 d) := by
  pointwise [betaOf]
  rw [block_w, read_bias]

/-- The step of its batch a point starts at. -/
abbrev start (t : Fin cfg0.N) : ℕ := 2048 * (t.val % 2)

/-- The blocks a point reads are steps of its batch's lanes. -/
theorem reads (c : Dev nD) (t : Fin cfg0.N) (d : Fin 1024) (n : ℕ) (hn : n < 8) :
    Reads (mAt (grid0.coords t) (iblk m c 1 t) n) (xAt (iblk m c 0 t) n) d (lane m c (batch t) d)
      (start t + 256 * n) where
  m k := by
    have h : start t + 256 * n + k.val < 4096 := by have := k.isLt; unfold start; omega
    rw [mAt_apply _ _ n hn k, block_m, read_m]
    unfold lane laneOf
    dsimp only
    rw [dif_pos h]
    congr 3
    refine Fin.ext ?_
    dsimp only
    rw [chunk t]
    unfold start
    omega
  x k := by
    have h : start t + 256 * n + k.val < 4096 := by have := k.isLt; unfold start; omega
    rw [xAt_apply _ n hn k d, block_x]
    unfold lane laneOf
    dsimp only
    rw [dif_pos h]
    congr 2
    refine Fin.ext ?_
    dsimp only
    unfold start
    omega

section
variable {S : Shape} {e : EltTy} (off size : Fin S.rank → ℕ) (inb : ∀ a, off a + size a ≤ S.size a)
  (w : (Rect.unit off size inb).shape.Idx → Elt Ideal e) (L : List (View.Piece (Elt Ideal) S e)) (y : S.Idx)

/-- An index inside the piece stored last reads that piece. -/
theorem canon_inside (x : (Rect.unit off size inb).shape.Idx) (h : ∀ a, (y a : ℕ) = off a + x a) :
    View.canon ((⟨Rect.unit off size inb, w⟩ : View.Piece (Elt Ideal) S e) :: L) y = w x := by
  have hy : y = (Rect.unit off size inb).emb x :=
    funext fun a => Fin.ext ((h a).trans (by rw [Rect.emb_apply]; show _ = off a + 1 * (x a : ℕ); omega))
  rw [hy, View.canon_cons_emb]

/-- An index before the piece stored last, along one axis, reads the pieces stored earlier. -/
theorem canon_before (a : Fin S.rank) (h : (y a : ℕ) < off a) :
    View.canon ((⟨Rect.unit off size inb, w⟩ : View.Piece (Elt Ideal) S e) :: L) y = View.canon L y :=
  View.canon_cons_of_not_mem _ _ fun hm => absurd ((Rect.mem_set_unit (inb := inb)).mp hm a |>.1) (by omega)

end

section
variable (c : Dev nD) (t : Fin cfg0.N) (d : Fin 1024) {T : Totals Ideal}
  (hT : At T d (lane m c (batch t) d) (start t))
include hT

/-- The totals before a point's block `n`. -/
theorem totals_at (n : ℕ) (hn : n ≤ 8) :
    At (totals T (mAt (grid0.coords t) (iblk m c 1 t)) (xAt (iblk m c 0 t)) n) d (lane m c (batch t) d)
      (start t + 256 * n) :=
  totals_lane hT n fun i hi => reads m c t d i (by omega)

/-- A point's blocks of y are its lanes' normalised values. -/
theorem outY_at (k : Fin 2048) :
    stack (outY (grid0.coords t) (iblk m c 0 t) (iblk m c 1 t) (iblk m c 3 t) T) (ix3 0 k d)
      = (lane m c (batch t) d).y (argW m c (ix1 d) + 1) (argB m c (ix1 d)) (start t + k.val) := by
  have hk := k.isLt
  have hn : k.val / 256 < 8 := by omega
  unfold stack outY
  refine (rowsY_lane (totals_at m c t d hT _ hn.le) (reads m c t d _ hn) _ _ (laneOf_m01 _ _ _ _ _ _ _) 0
    ⟨k.val % 256, Nat.mod_lt _ (by decide)⟩).trans ?_
  rw [gamma_apply, beta_apply]
  congr 1
  change start t + 256 * (k.val / 256) + k.val % 256 = start t + k.val
  omega

/-- A point's row of last values: the mean. -/
theorem last_mean : View.canon (lastPieces (grid0.coords t) (iblk m c 0 t) (iblk m c 1 t) T) (ix3 0 0 ⟨d.val, by omega⟩)
      = (lane m c (batch t) d).mean (start t + 2048) := by
  unfold lastPieces
  have hd := d.isLt
  refine (canon_before _ _ _ _ _ _ 2 (show d.val < 2048 by omega)).trans
    ((canon_before _ _ _ _ _ _ 2 (show d.val < 1024 from hd)).trans
      ((canon_inside _ _ _ _ _ _ (ix3 0 0 d) fun a => ?_).trans ?_))
  · fin_cases a
    · rfl
    · rfl
    · exact (Nat.zero_add d.val).symm
  pointwise [k0_pay5]
  exact (rowsMean_lane (totals_at m c t d hT 7 (by decide)) (reads m c t d 7 (by decide)) 255)

/-- A point's row of last values: the variance. -/
theorem last_var : View.canon (lastPieces (grid0.coords t) (iblk m c 0 t) (iblk m c 1 t) T)
        (ix3 0 0 ⟨1024 + d.val, by omega⟩)
      = max ((lane m c (batch t) d).var (start t + 2048)) 0 := by
  unfold lastPieces
  have hd := d.isLt
  refine (canon_before _ _ _ _ _ _ 2 (show 1024 + d.val < 2048 by omega)).trans
    ((canon_inside _ _ _ _ _ _ (ix3 0 0 d) fun a => ?_).trans ?_)
  · fin_cases a <;> rfl
  pointwise [k0_pay6]
  rw [rowsVar_lane (totals_at m c t d hT 7 (by decide)) (reads m c t d 7 (by decide)) 255]
  rfl

/-- A point's row of last values: the count. -/
theorem last_cnt (r : Fin 128) :
    View.canon (lastPieces (grid0.coords t) (iblk m c 0 t) (iblk m c 1 t) T) (ix3 0 0 ⟨2048 + r.val, by omega⟩)
      = (lane m c (batch t) d).cnt (start t + 2048) := by
  unfold lastPieces
  refine (canon_inside _ _ _ _ _ _ (ix3 0 0 r) fun a => ?_).trans ?_
  · fin_cases a <;> rfl
  pointwise [k0_pay7, k0_pay1]
  exact (rowsC_lane (totals_at m c t d hT 7 (by decide)) (reads m c t d 7 (by decide)) 255)

end

end Cert.KernelIdeal.Value

end
-- ==== Proof.Arrays.lean ====
/-
  The arrays the kernel leaves, in lanes: what each grid point writes back, and the arrays the points' blocks make up.
-/
module

public import proofs.«01_k».proof.Proof.Points

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

section
variable (c : Dev nD) (t : Fin cfg0.N)

/-- A batch's first point starts at the batch's priors. -/
theorem even_at (h0 : t.val % 2 = 0) (d : Fin 1024) :
    At (firstTotals (iblk m c 2 t : Vec Ideal S1x1x2176 .f32)) d (lane m c (batch t) d) (start t) := by
  have h : start t = 0 := by unfold start; omega
  rw [h]
  exact first_at m c t d

/-- The totals a batch's first point leaves for the next one. -/
abbrev left (n : ℕ) (h : n < cfg0.N) : Totals Ideal :=
  keptTotals (outsAt0 m c n h).2.2.1 (outsAt0 m c n h).2.2.2.1 (outsAt0 m c n h).2.2.2.2

/-- What a batch's first point leaves are the lanes' totals after half of the steps. -/
theorem left_at (h0 : t.val % 2 = 0) (d : Fin 1024) :
    At (left m c t.val t.isLt) d (lane m c (batch t) d) 2048 := by
  have h1 : ¬ t.val % 2 = 1 := by omega
  have e := totals_at m c t d (even_at m c t h0 d) 8 le_rfl
  have hs : start t + 256 * 8 = 2048 := by unfold start; omega
  rw [hs] at e
  have hA := outsAt0_A m c t h0 h1
  unfold left
  rw [hA]
  dsimp only
  rw [sout0_A_0_eq, sout0_A_1_eq, sout0_A_2_eq]
  refine ⟨?_, ?_, ?_⟩
  · refine Eq.trans ?_ e.c
    pointwise [keptTotals, endT]
  · refine Eq.trans ?_ e.s
    pointwise [keptTotals, endT]
  · refine Eq.trans ?_ e.q
    pointwise [keptTotals, endT]

/-- The second point of a batch starts at what the first one left. -/
theorem odd_at (h1 : t.val % 2 = 1) (d : Fin 1024) :
    At (left m c (t.val - 1) (Nat.lt_of_le_of_lt (Nat.sub_le _ _) t.isLt)) d (lane m c (batch t) d) (start t) := by
  have h : start t = 2048 := by unfold start; omega
  have hb : batch t = batch ⟨t.val - 1, Nat.lt_of_le_of_lt (Nat.sub_le _ _) t.isLt⟩ :=
    Fin.ext (by unfold batch; dsimp only; omega)
  rw [h, hb]
  exact left_at m c ⟨t.val - 1, Nat.lt_of_le_of_lt (Nat.sub_le _ _) t.isLt⟩ (by dsimp only; omega) d

/-- The block of y a point writes back. -/
theorem y_at (k : Fin 2048) (d : Fin 1024) :
    ((outsAt0 m c t.val t.isLt).1 : Vec Ideal S1x2048x1024 .f32) (ix3 0 k d)
      = (lane m c (batch t) d).y (argW m c (ix1 d) + 1) (argB m c (ix1 d)) (start t + k.val) := by
  rcases Nat.mod_two_eq_zero_or_one t.val with h0 | h1
  · rw [outsAt0_A m c t h0 (by omega)]
    dsimp only
    rw [out0_A_4_eq]
    exact outY_at m c t d (even_at m c t h0 d) k
  · rw [outsAt0_B m c t (by omega) h1]
    dsimp only
    rw [out0_B_4_eq]
    exact outY_at m c t d (odd_at m c t h1 d) k

/-- The row of last values a batch's second point writes back. -/
theorem last_eq (h1 : t.val % 2 = 1) :
    ((outsAt0 m c t.val t.isLt).2.1 : Vec Ideal S1x1x2176 .f32)
      = View.canon (lastPieces (grid0.coords t) (iblk m c 0 t) (iblk m c 1 t)
          (left m c (t.val - 1) (Nat.lt_of_le_of_lt (Nat.sub_le _ _) t.isLt))) := by
  rw [outsAt0_B m c t (by omega) h1]
  dsimp only
  rw [out0_B_5_eq]

end

/-- The array y the kernel leaves. -/
def finalY (c : Dev nD) : Vec Ideal S16x4096x1024 .f32 := fun j =>
  (lane m c (j 0) (j 2)).y (argW m c (ix1 (j 2)) + 1) (argB m c (ix1 (j 2))) (j 1).val

/-- The points' blocks of y make up the array. -/
theorem array_y (c : Dev nD) : (dats m 0 c).arrAt 4 cfg0.N = finalY m c := by
  refine (dats m 0 c).arrAt_eq_of_covers 4 _ (by decide +kernel) fun t hf y => ?_
  blk_simp
  rw [after0_4]
  obtain ⟨z, k, d, rfl⟩ : ∃ (z : Fin 1) (k : Fin 2048) (d : Fin 1024), y = ix3 z k d := ⟨y 0, y 1, y 2, eq_ix3 y⟩
  have hk : start t + k.val < 4096 := by have := k.isLt; unfold start; omega
  have he : (win0_4.blk t).view.emb (ix3 z k d : S1x2048x1024.Idx) = ix3 (batch t) ⟨start t + k.val, hk⟩ d := by
    unfold batch start
    blk_ext [idx t]
  rw [Subsingleton.elim z 0] at he ⊢
  rw [he]
  exact y_at m c t k d

/-- A batch's row of last values: the means, the variances, and the count over the remaining columns. -/
def lastRow (c : Dev nD) (b : Fin 16) (d : Fin 2176) : EReal :=
  if h : d.val < 1024 then (lane m c b ⟨d.val, h⟩).mean 4096
  else if h : d.val < 2048 then max ((lane m c b ⟨d.val - 1024, by omega⟩).var 4096) 0
  else (lane m c b 0).cnt 4096

/-- The array of last values the kernel leaves. -/
def finalLast (c : Dev nD) : Vec Ideal S16x1x2176 .f32 := fun j => lastRow m c (j 0) (j 2)

/-- The second points' rows make up the array of last values. -/
theorem array_last (c : Dev nD) : (dats m 0 c).arrAt 5 cfg0.N = finalLast m c := by
  refine (dats m 0 c).arrAt_eq_of_covers 5 _ (by decide +kernel) fun t hf y => ?_
  blk_simp
  rw [after0_5]
  have h1 : t.val % 2 = 1 := (flush0_5 t).mp hf
  have hs : start t + 2048 = 4096 := by unfold start; omega
  obtain ⟨z, r, d, rfl⟩ : ∃ (z r : Fin 1) (d : Fin 2176), y = ix3 z r d := ⟨y 0, y 1, y 2, eq_ix3 y⟩
  have he : (win0_5.blk t).view.emb (ix3 z r d : S1x1x2176.Idx) = ix3 (batch t) r d := by
    unfold batch
    blk_ext [idx t]
  rw [Subsingleton.elim z 0, Subsingleton.elim r 0] at he ⊢
  rw [he, last_eq m c t h1]
  have hd := d.isLt
  change _ = lastRow m c (batch t) d
  unfold lastRow
  split_ifs with h h'
  · refine (last_mean m c t ⟨d.val, h⟩ (odd_at m c t h1 _)).trans ?_
    rw [hs]
  · have e : d = ⟨1024 + (d.val - 1024), by omega⟩ := Fin.ext (by dsimp only; omega)
    refine (congrArg _ (congrArg (ix3 0 0) e)).trans
      ((last_var m c t ⟨d.val - 1024, by omega⟩ (odd_at m c t h1 _)).trans ?_)
    rw [hs]
  · have e : d = ⟨2048 + (d.val - 2048), by omega⟩ := Fin.ext (by dsimp only; omega)
    refine (congrArg _ (congrArg (ix3 0 0) e)).trans
      ((last_cnt m c t 0 (odd_at m c t h1 _) ⟨d.val - 2048, by omega⟩).trans ?_)
    rw [hs]

end Cert.KernelIdeal.Value

end
-- ==== Proof.KernelRun.lean ====
/-
  The kernel's results, in lanes: the array y, and the counts, means and variances the host cuts out of the array of
  last values.
-/
module

public import proofs.«01_k».proof.Proof.Arrays

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- The counts the kernel returns. -/
def finalCnt (c : Dev nD) : Vec Ideal S16 .f32 := fun j => (lane m c (j 0) 0).cnt 4096

/-- The means the kernel returns. -/
def finalMean (c : Dev nD) : Vec Ideal S16x1024 .f32 := fun j => (lane m c (j 0) (j 1)).mean 4096

/-- The variances the kernel returns. -/
def finalVar (c : Dev nD) : Vec Ideal S16x1024 .f32 := fun j => max ((lane m c (j 0) (j 1)).var 4096) 0

/-- The buffers once the grid has run. -/
abbrev exit (c : Dev nD) : Valuation τ sig (Elt Ideal) :=
  Pipeline.withArrays spec0 c (V0 m c) fun w => (dats m 0 c).arrAt w cfg0.N

/-- Once the grid has run, the second array holds the rows of last values. -/
theorem exit_last (c : Dev nD) : exit m c (Proc.devRef .tc main_v12_1) = finalLast m c :=
  (Pipeline.withArrays_arr spec0 (by decide) c (V0 m c) _ 5).trans (array_last m c)

/-- The count buffer after the host's last lines. -/
theorem cnt_eq (c : Dev nD) : Pipeline.afterTail₀ cfgs (dats m) 0 (V0 m) [hostOps1] c main_v14 = finalCnt m c := by
  change StableHlo.after hostOps1 (exit m c) (Proc.devRef .tc main_v14) = _
  generalize he : exit m c = σ
  have hl : σ (Proc.devRef .tc main_v12_1) = finalLast m c := he ▸ exit_last m c
  funext j
  obtain ⟨b, rfl⟩ : ∃ b : Fin 16, j = ix1 b := ⟨j 0, eq_ix1 j⟩
  entry_read
  rw [hl]
  change shapeCast S16 (extractStridedSlice S16x1x1 ![0, 0, 2048] (finalLast m c) slices_S16x1x2176_S16x1x1_0_0_2048)
    shapeCasts_S16x1x1_S16 (ix1 b) = (lane m c b 0).cnt 4096
  pointwise []
  rfl

/-- The mean buffer after the host's last lines. -/
theorem mean_eq (c : Dev nD) : Pipeline.afterTail₀ cfgs (dats m) 0 (V0 m) [hostOps1] c main_v16 = finalMean m c := by
  change StableHlo.after hostOps1 (exit m c) (Proc.devRef .tc main_v16) = _
  generalize he : exit m c = σ
  have hl : σ (Proc.devRef .tc main_v12_1) = finalLast m c := he ▸ exit_last m c
  funext j
  obtain ⟨b, d, rfl⟩ : ∃ (b : Fin 16) (d : Fin 1024), j = ix2 b d := ⟨j 0, j 1, eq_ix2 j⟩
  entry_read
  rw [hl]
  change shapeCast S16x1024 (extractStridedSlice S16x1x1024 ![0, 0, 0] (finalLast m c) slices_S16x1x2176_S16x1x1024_0_0_0)
    shapeCasts_S16x1x1024_S16x1024 (ix2 b d) = (lane m c b d).mean 4096
  pointwise []
  change lastRow m c b ⟨d.val, _⟩ = _
  exact dif_pos d.isLt

/-- The variance buffer after the host's last lines. -/
theorem var_eq (c : Dev nD) : Pipeline.afterTail₀ cfgs (dats m) 0 (V0 m) [hostOps1] c main_v18 = finalVar m c := by
  change StableHlo.after hostOps1 (exit m c) (Proc.devRef .tc main_v18) = _
  generalize he : exit m c = σ
  have hl : σ (Proc.devRef .tc main_v12_1) = finalLast m c := he ▸ exit_last m c
  funext j
  obtain ⟨b, d, rfl⟩ : ∃ (b : Fin 16) (d : Fin 1024), j = ix2 b d := ⟨j 0, j 1, eq_ix2 j⟩
  entry_read
  rw [hl]
  change shapeCast S16x1024 (extractStridedSlice S16x1x1024 ![0, 0, 1024] (finalLast m c) slices_S16x1x2176_S16x1x1024_0_0_1024)
    shapeCasts_S16x1x1024_S16x1024 (ix2 b d) = max ((lane m c b d).var 4096) 0
  have hd := d.isLt
  pointwise []
  change lastRow m c b ⟨1024 + d.val, _⟩ = _
  have e : (⟨1024 + d.val - 1024, by omega⟩ : Fin 1024) = d := Fin.ext (by dsimp only; omega)
  refine (dif_neg (by dsimp only; omega)).trans ((dif_pos (by dsimp only; omega)).trans ?_)
  rw [e]

/-- The kernel's run: its four results. -/
theorem run (ρ : Dev nD → PrngReg) :
    θ_run defs (onTc (τ := τ) (main (F := Ideal))) ⟨m, fun _ => 0, ρ⟩ fun r =>
      ∀ c : Dev nD, r.2.mem ((c.tc : Thread nD τ).loc main_v12_0) = finalY m c
        ∧ r.2.mem ((c.tc : Thread nD τ).loc main_v14) = finalCnt m c
        ∧ r.2.mem ((c.tc : Thread nD τ).loc main_v16) = finalMean m c
        ∧ r.2.mem ((c.tc : Thread nD τ).loc main_v18) = finalVar m c := by
  refine (θ_run defs _ _).mono (fun r h c => ⟨?_, ?_, ?_, ?_⟩) (run_main m ρ)
  · exact ((h c).1 4).trans (array_y m c)
  · exact ((h c).2 main_v14 (Pipeline.mem_restRefs_of main_v14 (by decide) (by decide))).trans (cnt_eq m c)
  · exact ((h c).2 main_v16 (Pipeline.mem_restRefs_of main_v16 (by decide) (by decide))).trans (mean_eq m c)
  · exact ((h c).2 main_v18 (Pipeline.mem_restRefs_of main_v18 (by decide) (by decide))).trans (var_eq m c)

end Cert.KernelIdeal.Value

end
-- ==== Proof.RefStep.lean ====
/-
  One trip of the reference's loop, in lanes: from buffers that hold the lanes' statistics after `k` steps, a trip makes
  buffers that hold them after `k + 1`.
-/
module

public import proofs.«01_k».proof.Proof.Gen.ReferenceIdeal.Run
public import proofs.«01_k».proof.Proof.Lanes
public import Idealize.ShloMosaic.Lib.Pointwise
public import Idealize.ShloMosaic.Lib.DynamicIndex
public import Idealize.ShloMosaic.Lib.WordCmp
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.ReferenceIdeal.Value

open Cert.ReferenceIdeal Cert.ReferenceIdeal.Gen

/-- The buffers before trip `k`: the inputs of the trips, the trip's number, the lanes' statistics after `k` steps, and the
    normalised values of the steps so far. -/
structure Holds (L : Fin 16 → Fin 1024 → Lane) (g e : Fin 1024 → EReal) (V : Valuation τ sig (Elt Ideal)) (k : ℕ) : Prop where
  /-- the values -/
  x : ∀ (j : Fin 4096) (b : Fin 16) (d : Fin 1024),
    (V (Proc.devRef .tc main_v8_0) : Vec Ideal S4096x16x1024 .f32) (ix3 j b d) = (L b d).x j.val
  /-- the mask -/
  m : ∀ (j : Fin 4096) (b : Fin 16) (d : Fin 1024),
    (V (Proc.devRef .tc main_v8_1) : Vec Ideal S4096x16 .f32) (ix2 j b) = (L b d).m j.val
  /-- the scale -/
  hg : ∀ d : Fin 1024, (V (Proc.devRef .tc main_v8_2) : Vec Ideal S1024 .f32) (ix1 d) = g d
  /-- the shift -/
  he : ∀ d : Fin 1024, (V (Proc.devRef .tc main_v8_3) : Vec Ideal S1024 .f32) (ix1 d) = e d
  /-- the trip's number -/
  i : V (Proc.devRef .tc main_v8_4) = fun _ => BitVec.ofNat 32 k
  /-- the counts -/
  c : ∀ (b : Fin 16) (d : Fin 1024),
    (V (Proc.devRef .tc main_v8_5) : Vec Ideal S16 .f32) (ix1 b) = ((L b d).stat k).c
  /-- the means -/
  mu : ∀ (b : Fin 16) (d : Fin 1024),
    (V (Proc.devRef .tc main_v8_6) : Vec Ideal S16x1024 .f32) (ix2 b d) = ((L b d).stat k).mu
  /-- the variances -/
  v : ∀ (b : Fin 16) (d : Fin 1024),
    (V (Proc.devRef .tc main_v8_7) : Vec Ideal S16x1024 .f32) (ix2 b d) = ((L b d).stat k).v
  /-- the normalised values so far -/
  y : ∀ (j : Fin 4096) (b : Fin 16) (d : Fin 1024), j.val < k →
    (V (Proc.devRef .tc main_v8_8) : Vec Ideal S4096x16x1024 .f32) (ix3 j b d) = (L b d).refY (g d) (e d) j.val

/-- One row of the mask fits at any position. -/
theorem slices_row (k : ℕ) (hk : k < 4096) : S4096x16.Slices ![k, 0] S1x16 :=
  ⟨rfl, fun a => by
    fin_cases a
    · exact hk
    · exact le_rfl⟩

/-- One row of the values fits at any position. -/
theorem slices_rows (k : ℕ) (hk : k < 4096) : S4096x16x1024.Slices ![k, 0, 0] S1x16x1024 :=
  ⟨rfl, fun a => by
    fin_cases a
    · exact hk
    · exact le_rfl
    · exact le_rfl⟩

/-- Storing a row leaves the rows before it. -/
theorem update_before (X : Vec Ideal S4096x16x1024 .f32) (u : Vec Ideal S1x16x1024 .f32) (k : ℕ) (hk : k < 4096)
    (j : Fin 4096) (b : Fin 16) (d : Fin 1024) (hj : j.val < k) :
    updateSlice X u ![k, 0, 0] (slices_rows k hk) (ix3 j b d) = X (ix3 j b d) :=
  dif_neg fun hin => absurd (show k ≤ j.val from (hin 0).1) (by omega)

/-- Storing a row puts it there. -/
theorem update_at (X : Vec Ideal S4096x16x1024 .f32) (u : Vec Ideal S1x16x1024 .f32) (k : ℕ) (hk : k < 4096)
    (j : Fin 4096) (b : Fin 16) (d : Fin 1024) (hj : j.val = k) :
    updateSlice X u ![k, 0, 0] (slices_rows k hk) (ix3 j b d) = u (ix3 0 b d) := by
  subst hj
  have hb := b.isLt
  have hd := d.isLt
  refine (dif_pos fun a => ?_).trans (congrArg u (funext fun a => ?_))
  · fin_cases a
    · exact ⟨le_rfl, Nat.lt_succ_self _⟩
    · exact ⟨Nat.zero_le _, by show b.val < 0 + 16; omega⟩
    · exact ⟨Nat.zero_le _, by show d.val < 0 + 1024; omega⟩
  · fin_cases a
    · exact Fin.ext (Nat.sub_self _)
    · rfl
    · rfl

/-- A row under a new axis of one. -/
theorem broadcastInDim_rows (r : Vec Ideal S16x1024 .f32) (b : Fin 16) (d : Fin 1024) :
    (broadcastInDim S1x16x1024 ![1, 2] bcast_S16x1024_S1x16x1024_1_2 r : Vec Ideal S1x16x1024 .f32) (ix3 0 b d)
      = r (ix2 b d) := by
  pointwise []

section
variable {L : Fin 16 → Fin 1024 → Lane} {g e : Fin 1024 → EReal} {V : Valuation τ sig (Elt Ideal)} {k : ℕ}
  (h : Holds L g e V k) (hk : k < 4096)
include h hk

/-- The mask a trip reads. -/
theorem read_m (b : Fin 16) (d : Fin 1024) :
    (res_main_while0b_v11 V : Vec Ideal S16 .f32) (ix1 b) = (L b d).m k := by
  unfold res_main_while0b_v11
  rw [h.i]
  refine (congrArg (fun z : Vec Ideal S1x16 .f32 => shapeCast S16 z shapeCasts_S1x16_S16 (ix1 b))
    (Host.dynamicSlice_eq_extractStridedSlice S1x16 (V (Proc.devRef .tc main_v8_1) : Vec Ideal S4096x16 .f32) _ ![k, 0] _
      (slices_row k hk) (fun a => by
        fin_cases a
        · exact toInt_ofNat_of_lt (by omega)
        · rfl))).trans ?_
  pointwise []
  exact h.m ⟨k, hk⟩ b d

/-- The values a trip reads. -/
theorem read_x (b : Fin 16) (d : Fin 1024) :
    (res_main_while0b_v10 V : Vec Ideal S16x1024 .f32) (ix2 b d) = (L b d).x k := by
  unfold res_main_while0b_v10
  rw [h.i]
  refine (congrArg (fun z : Vec Ideal S1x16x1024 .f32 => shapeCast S16x1024 z shapeCasts_S1x16x1024_S16x1024 (ix2 b d))
    (Host.dynamicSlice_eq_extractStridedSlice S1x16x1024 (V (Proc.devRef .tc main_v8_0) : Vec Ideal S4096x16x1024 .f32) _
      ![k, 0, 0] _ (slices_rows k hk) (fun a => by
        fin_cases a
        · exact toInt_ofNat_of_lt (by omega)
        · rfl
        · rfl))).trans ?_
  pointwise []
  exact h.x ⟨k, hk⟩ b d

/-- The counts after a trip. -/
theorem new_c (b : Fin 16) (d : Fin 1024) :
    (res_main_while0b_v13 V : Vec Ideal S16 .f32) (ix1 b) = ((L b d).stat (k + 1)).c := by
  pointwise [res_main_while0b_v13]
  rw [read_m h hk b d, h.c b d]
  rfl

/-- The means after a trip. -/
theorem new_mu (b : Fin 16) (d : Fin 1024) :
    (res_main_while0b_v22 V : Vec Ideal S16x1024 .f32) (ix2 b d) = ((L b d).stat (k + 1)).mu := by
  pointwise [res_main_while0b_v22, res_main_while0b_v12, res_main_while0b_v16, res_main_while0b_v17]
  rw [read_m h hk b d, read_x h hk b d, new_c h hk b d, h.mu b d]
  rfl

/-- The variances after a trip. -/
theorem new_v (b : Fin 16) (d : Fin 1024) :
    (res_main_while0b_v33 V : Vec Ideal S16x1024 .f32) (ix2 b d) = ((L b d).stat (k + 1)).v := by
  pointwise [res_main_while0b_v33, res_main_while0b_v12, res_main_while0b_v16, res_main_while0b_v17]
  rw [read_m h hk b d, read_x h hk b d, new_c h hk b d, new_mu h hk b d, h.mu b d, h.v b d, h.c b d]
  rfl

/-- The row of normalised values a trip makes. -/
theorem new_y (b : Fin 16) (d : Fin 1024) :
    (mulf (addf (mulf (mulf (broadcastInDim S16x1024 ![0, 1] bcast_S1x1024_S16x1024_0_1 (broadcastInDim S1x1024 ![1] bcast_S1024_S1x1024_1 (V (Proc.devRef .tc main_v8_2)))) (subf (res_main_while0b_v10 V) (res_main_while0b_v22 V))) (Host.rsqrt (addf (res_main_while0b_v33 V) (broadcastInDim S16x1024 ![] bcast_S_S16x1024 (constant S_ .f32 0x3727C5AC#32))))) (broadcastInDim S16x1024 ![0, 1] bcast_S1x1024_S16x1024_0_1 (broadcastInDim S1x1024 ![1] bcast_S1024_S1x1024_1 (V (Proc.devRef .tc main_v8_3))))) (broadcastInDim S16x1024 ![0, 1] bcast_S16x1_S16x1024_0_1 (res_main_while0b_v12 V)) : Vec Ideal S16x1024 .f32) (ix2 b d)
      = (L b d).refY (g d) (e d) k := by
  pointwise [res_main_while0b_v12]
  rw [read_m h hk b d, read_x h hk b d, new_mu h hk b d, new_v h hk b d, h.hg d, h.he d]
  rfl

/-- A trip makes the buffers of the next one. -/
theorem holds_step : Holds L g e (STEP V) (k + 1) where
  x j b d := by rw [STEP_main_v8_0]; exact h.x j b d
  m j b d := by rw [STEP_main_v8_1]; exact h.m j b d
  hg d := by rw [STEP_main_v8_2]; exact h.hg d
  he d := by rw [STEP_main_v8_3]; exact h.he d
  i := by
    rw [STEP_main_v8_4, step_main_v8_4, h.i]
    funext z
    exact (BitVec.ofNat_add k 1).symm
  c b d := by rw [STEP_main_v8_5]; exact new_c h hk b d
  mu b d := by rw [STEP_main_v8_6]; exact new_mu h hk b d
  v b d := by rw [STEP_main_v8_7]; exact new_v h hk b d
  y j b d hj := by
    rw [STEP_main_v8_8, step_main_v8_8, h.i]
    refine (congrFun (WordCmp.dynamicUpdateSlice_eq_update (V (Proc.devRef .tc main_v8_8) : Vec Ideal S4096x16x1024 .f32) _ _ _
      ![k, 0, 0] (slices_rows k hk) (fun a => by
        fin_cases a
        · exact toInt_ofNat_of_lt (by omega)
        · rfl
        · rfl)) (ix3 j b d)).trans ?_
    rcases Nat.lt_succ_iff_lt_or_eq.mp hj with hlt | rfl
    · exact (update_before _ _ _ hk j b d hlt).trans (h.y j b d hlt)
    · refine (update_at _ _ _ hk j b d rfl).trans (Eq.trans ?_ (new_y h hk b d))
      exact broadcastInDim_rows _ b d

end

end Cert.ReferenceIdeal.Value

end
-- ==== Proof.Reference.lean ====
/-
  The reference's results, in lanes: from the arguments at the loop's entry, by the trips, to the last statistics and the
  normalised values.
-/
module

public import proofs.«01_k».proof.Proof.RefStep
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.StableHlo

namespace Cert.ReferenceIdeal.Value

open Cert.ReferenceIdeal Cert.ReferenceIdeal.Gen

variable (m : (ℓ : Loc nD τ sig) → Buf (Elt Ideal) ℓ)

/-- The values. -/
abbrev argX (c : Dev nD) : Vec Ideal S16x4096x1024 .f32 := m ((c.tc : Thread nD τ).loc main_arg0)
/-- The counts at the start. -/
abbrev argN (c : Dev nD) : IVec S16 32 := m ((c.tc : Thread nD τ).loc main_arg1)
/-- The means at the start. -/
abbrev argMu (c : Dev nD) : Vec Ideal S16x1024 .f32 := m ((c.tc : Thread nD τ).loc main_arg2)
/-- The variances at the start. -/
abbrev argV (c : Dev nD) : Vec Ideal S16x1024 .f32 := m ((c.tc : Thread nD τ).loc main_arg3)
/-- The weights. -/
abbrev argW (c : Dev nD) : Vec Ideal S1024 .f32 := m ((c.tc : Thread nD τ).loc main_arg4)
/-- The biases. -/
abbrev argB (c : Dev nD) : Vec Ideal S1024 .f32 := m ((c.tc : Thread nD τ).loc main_arg5)
/-- The padding mask. -/
abbrev argP (c : Dev nD) : IVec S16x4096 1 := m ((c.tc : Thread nD τ).loc main_arg6)

/-- The lanes of the reference's arguments. -/
abbrev lane (c : Dev nD) (b : Fin 16) (d : Fin 1024) : Lane :=
  laneOf (argX m c) (argN m c) (argMu m c) (argV m c) (argP m c) b d

/-- Not the mask, as a number. -/
theorem uitofp_not (p : BitVec 1) : (FloatOps.uitofp .f32 (~~~p) : Ideal .f32) = valid p := by
  rcases BitVec.eq_zero_or_eq_one p with h | h <;> subst h <;> simp [valid, FloatOps.uitofp]

/-- At the loop's entry the buffers hold the lanes at their start. -/
theorem holds_entry (c : Dev nD) :
    Holds (lane m c) (fun d => argW m c (ix1 d) + 1) (fun d => argB m c (ix1 d)) (entryContents preI m c) 0 where
  x j b d := by
    change StableHlo.after hostOps0 (fun b => m (c, b)) (Proc.devRef .tc main_v8_0) _ = _
    entry_read
    rw [laneOf_x_at]
    change transpose S4096x16x1024 [1, 0, 2] (argX m c) transposes_S16x4096x1024_S4096x16x1024_1_0_2 (ix3 j b d) = _
    pointwise []
  m j b d := by
    change StableHlo.after hostOps0 (fun b => m (c, b)) (Proc.devRef .tc main_v8_1) _ = _
    entry_read
    rw [laneOf_m_at]
    change transpose S4096x16 [1, 0] (uitofp .f32 (noti (argP m c)) : FVec Ideal S16x4096 .f32)
      transposes_S16x4096_S4096x16_1_0 (ix2 j b) = _
    pointwise []
    exact uitofp_not _
  hg d := by
    change StableHlo.after hostOps0 (fun b => m (c, b)) (Proc.devRef .tc main_v8_2) _ = _
    entry_read
    change addf (F := Ideal) (argW m c) (broadcastInDim S1024 ![] bcast_S_S1024 (constant S_ .f32 0x3F800000#32))
      (ix1 d) = _
    pointwise []
  he d := by
    change StableHlo.after hostOps0 (fun b => m (c, b)) (Proc.devRef .tc main_v8_3) _ = _
    entry_read
    rfl
  i := ctr_entry m c
  c b d := by
    change StableHlo.after hostOps0 (fun b => m (c, b)) (Proc.devRef .tc main_v8_5) _ = _
    entry_read
    rfl
  mu b d := by
    change StableHlo.after hostOps0 (fun b => m (c, b)) (Proc.devRef .tc main_v8_6) _ = _
    entry_read
    rfl
  v b d := by
    change StableHlo.after hostOps0 (fun b => m (c, b)) (Proc.devRef .tc main_v8_7) _ = _
    entry_read
    rfl
  y j b d h := absurd h (Nat.not_lt_zero _)

/-- After `k` trips the buffers hold the lanes after `k` steps. -/
theorem holds_iter (c : Dev nD) : ∀ k, k ≤ 4096 →
    Holds (lane m c) (fun d => argW m c (ix1 d) + 1) (fun d => argB m c (ix1 d)) (STEP^[k] (entryContents preI m c)) k
  | 0, _ => holds_entry m c
  | k + 1, h => by
    rw [Function.iterate_succ_apply']
    exact holds_step (holds_iter c k (by omega)) (by omega)

/-- The normalised values the reference returns. -/
def finalY (c : Dev nD) : Vec Ideal S16x4096x1024 .f32 := fun j =>
  (lane m c (j 0) (j 2)).refY (argW m c (ix1 (j 2)) + 1) (argB m c (ix1 (j 2))) (j 1).val

/-- The counts the reference returns. -/
def finalCnt (c : Dev nD) : Vec Ideal S16 .f32 := fun j => ((lane m c (j 0) 0).stat 4096).c

/-- The means the reference returns. -/
def finalMean (c : Dev nD) : Vec Ideal S16x1024 .f32 := fun j => ((lane m c (j 0) (j 1)).stat 4096).mu

/-- The variances the reference returns. -/
def finalVar (c : Dev nD) : Vec Ideal S16x1024 .f32 := fun j => ((lane m c (j 0) (j 1)).stat 4096).v

/-- The normalised values are the reference's first result. -/
theorem y_eq (c : Dev nD) : out_main_v9 (STEP^[4096] (entryContents preI m c)) = finalY m c := by
  have h := holds_iter m c 4096 le_rfl
  generalize STEP^[4096] (entryContents preI m c) = V at h
  funext j
  obtain ⟨b, k, d, rfl⟩ : ∃ (b : Fin 16) (k : Fin 4096) (d : Fin 1024), j = ix3 b k d := ⟨j 0, j 1, j 2, eq_ix3 j⟩
  refine Eq.trans ?_ (h.y k b d k.isLt)
  change transpose S16x4096x1024 [1, 0, 2] (V (Proc.devRef .tc main_v8_8) : Vec Ideal S4096x16x1024 .f32)
    transposes_S4096x16x1024_S16x4096x1024_1_0_2 (ix3 b k d) = _
  pointwise []

/-- The last counts are the reference's second result. -/
theorem cnt_eq (c : Dev nD) : (STEP^[4096] (entryContents preI m c)) (Proc.devRef .tc main_v8_5) = finalCnt m c := by
  have h := holds_iter m c 4096 le_rfl
  funext j
  obtain ⟨b, rfl⟩ : ∃ b : Fin 16, j = ix1 b := ⟨j 0, eq_ix1 j⟩
  exact h.c b 0

/-- The last means are the reference's third result. -/
theorem mean_eq (c : Dev nD) : (STEP^[4096] (entryContents preI m c)) (Proc.devRef .tc main_v8_6) = finalMean m c := by
  have h := holds_iter m c 4096 le_rfl
  funext j
  obtain ⟨b, d, rfl⟩ : ∃ (b : Fin 16) (d : Fin 1024), j = ix2 b d := ⟨j 0, j 1, eq_ix2 j⟩
  exact h.mu b d

/-- The last variances are the reference's fourth result. -/
theorem var_eq (c : Dev nD) : (STEP^[4096] (entryContents preI m c)) (Proc.devRef .tc main_v8_7) = finalVar m c := by
  have h := holds_iter m c 4096 le_rfl
  funext j
  obtain ⟨b, d, rfl⟩ : ∃ (b : Fin 16) (d : Fin 1024), j = ix2 b d := ⟨j 0, j 1, eq_ix2 j⟩
  exact h.v b d

end Cert.ReferenceIdeal.Value

end
-- ==== Proof.Ready.lean ====
/-
  The precondition, in lanes: where it holds, every lane starts from a real count that is at least one, a real mean and a
  variance that is not negative, and every value that counts is real.
-/
module

public import proofs.«01_k».proof.Pre_running_state
public import proofs.«01_k».proof.Proof.Lanes
public import Idealize.ShloMosaic.Lib.Pointwise

@[expose] public section

set_option maxRecDepth 16384

noncomputable section

open Idealize.ShloMosaic

namespace Cert.Pre_running_state

/-- The side conditions of the precondition's operations. -/
theorem facts : Facts :=
  ⟨by decide, by decide, by decide, by decide⟩

variable [Facts]

/-- An extended real whose absolute value is below another one is a real number. -/
theorem real_of_abs (z u : EReal) (h : max z (-z) < u) : ∃ r : ℝ, z = (r : EReal) := by
  induction z with
  | bot => exact absurd (le_max_right _ _) (not_le.mpr (h.trans_le (by rw [EReal.neg_bot]; exact le_top)))
  | coe r => exact ⟨r, rfl⟩
  | top => exact absurd (le_max_left _ _) (not_le.mpr (h.trans_le le_top))

/-- A comparison whose word is one holds. -/
theorem of_word {P : Prop} [Decidable P] (h : BitVec.ofBool (decide P) = 1#1) : P := by
  by_contra hn
  rw [decide_eq_false hn] at h
  exact absurd h (by decide)

section
variable {x : FVec Ideal S16x4096x1024 .f32} {n : IVec S16 32} {mu v : FVec Ideal S16x1024 .f32} {w e : FVec Ideal S1024 .f32}
  {p : IVec S16x4096 1}

/-- Where the precondition holds, every lane is as the statistics need it. -/
theorem lanes_ok (h0 : (fn x n mu v w e p).1 = fun _ => 1#1) (h1 : (fn x n mu v w e p).2.1 = fun _ => 1#1)
    (h2 : (fn x n mu v w e p).2.2.1 = fun _ => 1#1) (h3 : (fn x n mu v w e p).2.2.2 = fun _ => 1#1)
    (b : Fin 16) (d : Fin 1024) : (laneOf x n mu v p b d).Ok where
  m01 := laneOf_m01 _ _ _ _ _ _ _
  c0 := by
    have h := congrFun h0 (ix1 b)
    unfold fn at h
    dsimp only at h
    pointwise at h
    have h1 : (1 : ℤ) ≤ (n (ix1 b)).toInt := of_word h
    exact ⟨((n (ix1 b)).toInt : ℝ), by exact_mod_cast h1, rfl⟩
  mu0 := by
    have h := congrFun h1 (ix2 b d)
    unfold fn at h
    dsimp only at h
    pointwise at h
    exact real_of_abs _ _ (of_word h)
  v0 := by
    have h := congrFun h2 (ix2 b d)
    unfold fn at h
    dsimp only at h
    pointwise at h
    exact of_word h
  x k hk := by
    have hlt : k < 4096 := by
      by_contra hn
      exact zero_ne_one ((dif_neg hn).symm.trans hk)
    have h := congrFun h3 (ix3 b ⟨k, hlt⟩ d)
    unfold fn at h
    dsimp only at h
    pointwise at h
    have hp : p (ix2 b ⟨k, hlt⟩) ≠ 1#1 := fun e => by
      have hm := (laneOf_m_at x n mu v p b d ⟨k, hlt⟩).symm.trans hk
      rw [valid, if_pos e] at hm
      exact zero_ne_one hm
    rw [show Scalar.select (p (ix2 b ⟨k, hlt⟩)) (0 : EReal) (x (ix3 b ⟨k, hlt⟩ d)) = x (ix3 b ⟨k, hlt⟩ d) from if_neg hp] at h
    obtain ⟨r, hr⟩ := real_of_abs _ _ (of_word h)
    exact ⟨r, (laneOf_x_at x n mu v p b d ⟨k, hlt⟩).trans hr⟩

end

end Cert.Pre_running_state

end
-- ==== Proof.Welford.lean ====
/-
  The statistics of a lane taken one step at a time are those read off the running count, sum and sum of squares.
-/
module

public import proofs.«01_k».proof.Proof.Lane

@[expose] public section

noncomputable section

open Idealize.ShloMosaic

namespace Cert.Lane

/-- A quotient by a real number that is not zero. -/
theorem div_coe (a : EReal) {b : ℝ} (hb : b ≠ 0) : Ideal.div a (b : EReal) = a * ((b⁻¹ : ℝ) : EReal) := by
  unfold Ideal.div
  rw [if_neg (by exact_mod_cast hb), EReal.coe_inv]

/-- A quotient of real numbers. -/
theorem div_coe_coe (a : ℝ) {b : ℝ} (hb : b ≠ 0) : Ideal.div (a : EReal) (b : EReal) = ((a / b : ℝ) : EReal) := by
  rw [div_coe _ hb, ← EReal.coe_mul, div_eq_mul_inv]

/-- One over a real number. -/
theorem one_div_coe {b : ℝ} (hb : b ≠ 0) : Ideal.div 1 (b : EReal) = ((b⁻¹ : ℝ) : EReal) := by
  rw [div_coe _ hb, one_mul]

variable {L : Lane}

/-- The mean and the variance as real numbers, the running totals being real: what a step leaves of them. -/
structure Real (L : Lane) (n : ℕ) (c s : ℝ) : Prop where
  /-- the count is at least one -/
  one_le : 1 ≤ c
  /-- the running count -/
  cnt : L.cnt n = (c : EReal)
  /-- the running sum -/
  sum : L.sum n = (s : EReal)
  /-- the count stepped -/
  sc : (L.stat n).c = (c : EReal)
  /-- the mean stepped -/
  smu : (L.stat n).mu = ((s / c : ℝ) : EReal)
  /-- the variance: a real number not negative, on both sides, or infinite on both -/
  var : (∃ q : ℝ, L.sq n = (q : EReal) ∧ 0 ≤ q / c - (s / c) ^ 2 ∧
      (L.stat n).v = ((q / c - (s / c) ^ 2 : ℝ) : EReal)) ∨
    (L.sq n = ⊤ ∧ (L.stat n).v = ⊤)

/-- A step adds its mask to the count. -/
theorem cnt_succ (n : ℕ) : L.cnt (n + 1) = L.cnt n + L.m n := by
  unfold cnt; rw [Finset.sum_range_succ, add_assoc]

/-- A step adds its value to the sum, where it counts. -/
theorem sum_succ (n : ℕ) : L.sum (n + 1) = L.sum n + L.m n * L.x n := by
  unfold sum; rw [Finset.sum_range_succ, add_assoc]

/-- A step adds the square of its value to the sum of squares, where it counts. -/
theorem sq_succ (n : ℕ) : L.sq (n + 1) = L.sq n + L.m n * (L.x n * L.x n) := by
  unfold sq; rw [Finset.sum_range_succ, add_assoc]

/-- The start. -/
theorem real_zero (h : L.Ok) : ∃ c s : ℝ, Real L 0 c s := by
  obtain ⟨c, hc1, hc⟩ := h.c0
  obtain ⟨u, hu⟩ := h.mu0
  have hc0 : c ≠ 0 := by linarith
  refine ⟨c, c * u, hc1, by simp [Lane.cnt, hc], by simp [Lane.sum, hc, hu], hc, ?_, ?_⟩
  · change L.mu0 = _
    rw [hu, mul_div_cancel_left₀ _ hc0]
  · have hv := h.v0
    have hsq : L.sq 0 = (c : EReal) * (L.v0 + (u : EReal) * (u : EReal)) := by simp [Lane.sq, hc, hu]
    have hs : (L.stat 0).v = L.v0 := rfl
    rw [hsq, hs]
    generalize L.v0 = v at hv
    induction v using EReal.rec with
    | bot => exact absurd hv (by simp)
    | top =>
      right
      refine ⟨?_, rfl⟩
      rw [← EReal.coe_mul, EReal.top_add_coe]
      exact EReal.coe_mul_top_of_pos (by linarith)
    | coe v =>
      left
      have hv' : 0 ≤ v := by exact_mod_cast hv
      have e : c * (v + u * u) / c - (c * u / c) ^ 2 = v := by
        rw [mul_div_cancel_left₀ _ hc0, mul_div_cancel_left₀ _ hc0]; ring
      refine ⟨c * (v + u * u), by push_cast; rfl, ?_, ?_⟩
      · rw [e]; exact hv'
      · rw [e]

/-- The variance after a step that counts, in real numbers. -/
theorem var_step {c s q x : ℝ} (hc : 1 ≤ c) :
    (c * (q / c - (s / c) ^ 2) + (x - s / c) * (x - (s / c + (x - s / c) / (c + 1)))) / (c + 1)
      = (q + x * x) / (c + 1) - ((s + x) / (c + 1)) ^ 2 := by
  have h0 : c ≠ 0 := by linarith
  have h1 : c + 1 ≠ 0 := by linarith
  field_simp
  ring

/-- The product of the two differences is a square. -/
theorem diff_mul {c s x : ℝ} (hc : 1 ≤ c) :
    0 ≤ (x - s / c) * (x - (s / c + (x - s / c) / (c + 1))) := by
  have h1 : c + 1 ≠ 0 := by linarith
  have : (x - s / c) * (x - (s / c + (x - s / c) / (c + 1))) = (x - s / c) ^ 2 * (c / (c + 1)) := by
    field_simp
    ring
  rw [this]
  positivity

/-- One step. -/
theorem real_succ (h : L.Ok) {n : ℕ} {c s : ℝ} (R : Real L n c s) : ∃ c' s' : ℝ, Real L (n + 1) c' s' := by
  have hc := R.one_le
  have h0 : c ≠ 0 := by linarith
  have h1 : c + 1 ≠ 0 := by linarith
  have hst : L.stat (n + 1) = step (L.stat n) (L.m n) (L.x n) := rfl
  rcases h.m01 n with hm | hm
  · refine ⟨c, s, hc, ?_, ?_, ?_, ?_, ?_⟩
    · rw [cnt_succ, R.cnt, hm, add_zero]
    · rw [sum_succ, R.sum, hm, zero_mul, add_zero]
    · rw [hst, step, R.sc, hm, add_zero]
    · have hmax : max (c : EReal) 1 = (c : EReal) := max_eq_left (by exact_mod_cast hc)
      rw [hst, step, R.sc, hm, add_zero, zero_mul, hmax, R.smu, div_coe _ h0, zero_mul, add_zero]
    · rw [sq_succ, hst, step, hm, zero_mul, add_zero]
      simpa using R.var
  · obtain ⟨x, hx⟩ := h.x n hm
    have hmax : max ((c : EReal) + 1) 1 = ((c + 1 : ℝ) : EReal) := by
      rw [max_eq_left]
      · push_cast; rfl
      · have : (1 : ℝ) ≤ c + 1 := by linarith
        exact_mod_cast this
    have hmu : (L.stat (n + 1)).mu = ((s / c + (x - s / c) / (c + 1) : ℝ) : EReal) := by
      rw [hst, step, R.sc, hm, hmax, R.smu, hx, one_mul, ← EReal.coe_sub, div_coe_coe _ h1, ← EReal.coe_add]
    have emu : s / c + (x - s / c) / (c + 1) = (s + x) / (c + 1) := by
      field_simp
      ring
    have hv : (L.stat (n + 1)).v = Ideal.div ((c : EReal) * (L.stat n).v
        + (((x - s / c) * (x - (s / c + (x - s / c) / (c + 1))) : ℝ) : EReal)) ((c + 1 : ℝ) : EReal) := by
      rw [hst, step, R.sc, hm, hmax, R.smu, hx, one_mul, ← EReal.coe_sub, div_coe_coe _ h1, ← EReal.coe_add,
        ← EReal.coe_sub, ← EReal.coe_mul, if_pos (by simp)]
    refine ⟨c + 1, s + x, by linarith, ?_, ?_, ?_, ?_, ?_⟩
    · rw [cnt_succ, R.cnt, hm]; push_cast; rfl
    · rw [sum_succ, R.sum, hm, hx, one_mul]; push_cast; rfl
    · rw [hst, step, R.sc, hm]; push_cast; rfl
    · rw [hmu, emu]
    · rcases R.var with ⟨q, hq, hpos, hsv⟩ | ⟨hq, hsv⟩
      · left
        refine ⟨q + x * x, ?_, ?_, ?_⟩
        · rw [sq_succ, hq, hm, hx, one_mul]; push_cast; rfl
        · rw [← var_step hc]
          have := diff_mul (c := c) (s := s) (x := x) hc
          positivity
        · rw [hv, hsv, ← EReal.coe_mul, ← EReal.coe_add, div_coe_coe _ h1, var_step hc]
      · right
        refine ⟨?_, ?_⟩
        · rw [sq_succ, hq, hm, hx, one_mul, ← EReal.coe_mul, EReal.top_add_coe]
        · rw [hv, hsv, EReal.coe_mul_top_of_pos (by linarith), EReal.top_add_coe, div_coe _ h1]
          exact EReal.top_mul_coe_of_pos (by positivity)

/-- Every step. -/
theorem real (h : L.Ok) : ∀ n : ℕ, ∃ c s : ℝ, Real L n c s
  | 0 => real_zero h
  | n + 1 => by
    obtain ⟨c, s, R⟩ := real h n
    exact real_succ h R

/-- The count stepped is the running count. -/
theorem stat_c (h : L.Ok) (n : ℕ) : (L.stat n).c = L.cnt n := by
  obtain ⟨c, s, R⟩ := real h n
  rw [R.sc, R.cnt]

/-- The mean stepped is the running sum over the running count. -/
theorem stat_mu (h : L.Ok) (n : ℕ) : (L.stat n).mu = L.mean n := by
  obtain ⟨c, s, R⟩ := real h n
  have h0 : c ≠ 0 := by have := R.one_le; linarith
  unfold mean
  rw [R.smu, R.sum, R.cnt, one_div_coe h0, ← EReal.coe_mul, div_eq_mul_inv]

/-- The variance stepped is the mean of the squares less the square of the mean. -/
theorem stat_v (h : L.Ok) (n : ℕ) : (L.stat n).v = L.var n := by
  have hmu := stat_mu h n
  obtain ⟨c, s, R⟩ := real h n
  have hc := R.one_le
  have h0 : c ≠ 0 := by linarith
  unfold var
  rw [← hmu, R.smu, R.cnt, one_div_coe h0]
  rcases R.var with ⟨q, hq, -, hsv⟩ | ⟨hq, hsv⟩
  · rw [hq, hsv, ← EReal.coe_mul, ← EReal.coe_mul, ← EReal.coe_sub]
    congr 1
    rw [div_eq_mul_inv q c]
    ring
  · rw [hq, hsv, ← EReal.coe_mul, EReal.top_mul_coe_of_pos (by positivity), EReal.top_sub_coe]

/-- The variance is not negative. -/
theorem var_nonneg (h : L.Ok) (n : ℕ) : 0 ≤ L.var n := by
  rw [← stat_v h n]
  obtain ⟨c, s, R⟩ := real h n
  rcases R.var with ⟨q, -, hpos, hsv⟩ | ⟨-, hsv⟩
  · rw [hsv]; exact_mod_cast hpos
  · rw [hsv]; exact le_top

/-- The normalised values agree. -/
theorem refY_eq (h : L.Ok) (g b : EReal) (n : ℕ) : L.refY g b n = L.y g b n := by
  unfold refY y
  rw [stat_mu h, stat_v h]

end Cert.Lane

end
-- ==== Proof.Agree.lean ====
/-
  Where the precondition holds and both programs are given the same arguments, the kernel's four results are the
  reference's.
-/
module

public import proofs.«01_k».proof.Defs
public import proofs.«01_k».proof.Proof.KernelRun
public import proofs.«01_k».proof.Proof.Reference
public import proofs.«01_k».proof.Proof.Ready
public import proofs.«01_k».proof.Proof.Welford

@[expose] public section

set_option maxRecDepth 16384

noncomputable section

open Idealize.ShloMosaic Idealize.ShloMosaic.TcCoe Idealize.SL.Sem

namespace Cert.Agree

section
variable {m : (ℓ : Loc KernelIdeal.nD KernelIdeal.τ KernelIdeal.sig) → Buf (Elt Ideal) ℓ}
  {m' : (ℓ : Loc ReferenceIdeal.nD ReferenceIdeal.τ ReferenceIdeal.sig) → Buf (Elt Ideal) ℓ}
  {c : Dev KernelIdeal.nD}

/-- The two programs are given the same arguments on a device. -/
structure Same (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD) : Prop where
  x : ReferenceIdeal.Value.argX m' c = KernelIdeal.Value.argX m c
  n : ReferenceIdeal.Value.argN m' c = KernelIdeal.Value.argN m c
  mu : ReferenceIdeal.Value.argMu m' c = KernelIdeal.Value.argMu m c
  v : ReferenceIdeal.Value.argV m' c = KernelIdeal.Value.argV m c
  w : ReferenceIdeal.Value.argW m' c = KernelIdeal.Value.argW m c
  b : ReferenceIdeal.Value.argB m' c = KernelIdeal.Value.argB m c
  p : ReferenceIdeal.Value.argP m' c = KernelIdeal.Value.argP m c

/-- Equal arguments make equal lanes. -/
theorem lane_eq (h : Same m m' c) (b : Fin 16) (d : Fin 1024) :
    ReferenceIdeal.Value.lane m' c b d = KernelIdeal.Value.lane m c b d := by
  unfold ReferenceIdeal.Value.lane KernelIdeal.Value.lane
  rw [h.x, h.n, h.mu, h.v, h.p]

/-- Where the precondition holds, every lane of the kernel's arguments is as the statistics need it. -/
theorem ok [Pre_running_state.Facts] (hp : Pre_KernelIdeal_running_state m) (c : Dev KernelIdeal.nD) (b : Fin 16) (d : Fin 1024) :
    (KernelIdeal.Value.lane m c b d).Ok :=
  Pre_running_state.lanes_ok (hp c).1 (hp c).2.1 (hp c).2.2.1 (hp c).2.2.2 b d

variable (hok : ∀ b d, (KernelIdeal.Value.lane m c b d).Ok) (h : Same m m' c)
include hok h

/-- The normalised values agree. -/
theorem y_eq : ReferenceIdeal.Value.finalY m' c = KernelIdeal.Value.finalY m c := by
  funext j
  refine (congrArg (fun L : Lane => L.refY _ _ _) (lane_eq h (j 0) (j 2))).trans ?_
  refine (Lane.refY_eq (hok _ _) _ _ _).trans ?_
  exact congrArg₂ (fun g e : EReal => (KernelIdeal.Value.lane m c (j 0) (j 2)).y g e (j 1).val)
    (congrArg (fun w : Vec Ideal ReferenceIdeal.S1024 .f32 => (w (ix1 (j 2)) + 1 : EReal)) h.w)
    (congrFun h.b (ix1 (j 2)))

/-- The counts agree. -/
theorem cnt_eq : ReferenceIdeal.Value.finalCnt m' c = KernelIdeal.Value.finalCnt m c := by
  funext j
  refine (congrArg (fun L : Lane => (L.stat 4096).c) (lane_eq h (j 0) 0)).trans ?_
  exact Lane.stat_c (hok _ _) _

/-- The means agree. -/
theorem mean_eq : ReferenceIdeal.Value.finalMean m' c = KernelIdeal.Value.finalMean m c := by
  funext j
  refine (congrArg (fun L : Lane => (L.stat 4096).mu) (lane_eq h (j 0) (j 1))).trans ?_
  exact Lane.stat_mu (hok _ _) _

/-- The variances agree: the kernel's floor at zero changes nothing. -/
theorem var_eq : ReferenceIdeal.Value.finalVar m' c = KernelIdeal.Value.finalVar m c := by
  funext j
  refine (congrArg (fun L : Lane => (L.stat 4096).v) (lane_eq h (j 0) (j 1))).trans ?_
  exact (Lane.stat_v (hok _ _) _).trans (max_eq_left (Lane.var_nonneg (hok _ _) _)).symm

end

end Cert.Agree

end
-- ==== Proof.lean ====
/-
  The claims: frames of the kernel, of its ideal form and of the reference, the ideal form is the kernel's, and over the
  extended reals kernel and reference compute the same four results.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.SL.Sem

/-- The reference terminates, leaves its arguments unchanged and has no semaphore to leave above zero. -/
theorem reference_frame : quiescent_ReferenceIdeal (hReferenceIdeal := Cert.ReferenceIdeal.Gen.facts) := fun m ρ _ =>
  (θ_run Cert.ReferenceIdeal.defs _ _).mono
    (fun r h => ⟨fun c => (h c).2.2.2.2, sem_eq_zero_of_no_sems rfl r.2⟩) (Cert.ReferenceIdeal.Value.run m ρ)

/-- Kernel and reference end with equal results: both end at what the kernel's lanes give. -/
theorem equal_results : algebraic_KernelIdeal_ReferenceIdeal_pre_running_state (hKernelIdeal := Cert.KernelIdeal.Gen.facts)
    (hReferenceIdeal := Cert.ReferenceIdeal.Gen.facts) (hPre_running_state := Cert.Pre_running_state.facts) := by
  intro m ρ m' ρ' hp hargs
  have hs : ∀ c, Agree.Same m m' c := fun c =>
    have ⟨h0, h1, h2, h3, h4, h5, h6⟩ := hargs c
    ⟨h0, h1, h2, h3, h4, h5, h6⟩
  have hok := fun c => @Agree.ok m Cert.Pre_running_state.facts hp c
  refine ⟨Cert.KernelIdeal.Value.finalY m, Cert.KernelIdeal.Value.finalCnt m, Cert.KernelIdeal.Value.finalMean m,
    Cert.KernelIdeal.Value.finalVar m, ?_, ?_⟩
  · exact (θ_run Cert.KernelIdeal.defs _ _).mono
      (fun r h c => have ⟨hy, hc, hm, hv⟩ := h.1 c; ⟨hy, hc, hm, hv, h.2 c⟩)
      (θ_run_and (Cert.KernelIdeal.Value.run m ρ) (Cert.KernelIdeal.Gen.unchanged m ρ))
  · exact (θ_run Cert.ReferenceIdeal.defs _ _).mono
      (fun r h c =>
        have ⟨hy, hc, hm, hv, ha⟩ := h c
        ⟨hy.trans ((Cert.ReferenceIdeal.Value.y_eq m' c).trans (Agree.y_eq (hok c) (hs c))),
          hc.trans ((Cert.ReferenceIdeal.Value.cnt_eq m' c).trans (Agree.cnt_eq (hok c) (hs c))),
          hm.trans ((Cert.ReferenceIdeal.Value.mean_eq m' c).trans (Agree.mean_eq (hok c) (hs c))),
          hv.trans ((Cert.ReferenceIdeal.Value.var_eq m' c).trans (Agree.var_eq (hok c) (hs c))), ha⟩)
      (Cert.ReferenceIdeal.Value.run m' ρ')

/-- All the claims. -/
theorem claim : Cert.Claim :=
  ⟨Cert.Kernel.Gen.facts, Cert.KernelIdeal.Gen.facts, Cert.ReferenceIdeal.Gen.facts, Cert.Pre_running_state.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial, trivial,
    equal_results⟩

end Cert.Proof

end
